-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S2x261888x2 : Shape := ⟨3, ![2, 261888, 2]⟩
abbrev S2x261888x4 : Shape := ⟨3, ![2, 261888, 4]⟩
abbrev S_ : Shape := ⟨0, ![]⟩

class Facts : Prop where
  bcast_S_S2x261888x4 : S_.BroadcastsInDim S2x261888x4 (![] : Fin 0 → Fin S2x261888x4.rank)

variable [Facts]

def fn {F : FTy → Type} [FloatOps F] (main_arg0 : FVec F S2x261888x2 .f32) (main_arg1 : FVec F S2x261888x4 .f32) (main_arg2 : FVec F S2x261888x4 .f32) : IVec S2x261888x4 1 × IVec S2x261888x4 1 :=
  let main_v0 : FVec F S2x261888x4 .f32 := Host.absf main_arg1
  let main_cst : FVec F S_ .f32 := constant S_ .f32 0x7F800000#32
  let main_v1 : FVec F S2x261888x4 .f32 := broadcastInDim S2x261888x4 ![] bcast_S_S2x261888x4 main_cst
  let main_v2 : IVec S2x261888x4 1 := cmpf .olt main_v0 main_v1
  let main_v3 : FVec F S2x261888x4 .f32 := Host.absf main_arg2
  let main_cst_0 : FVec F S_ .f32 := constant S_ .f32 0x7F800000#32
  let main_v4 : FVec F S2x261888x4 .f32 := broadcastInDim S2x261888x4 ![] bcast_S_S2x261888x4 main_cst_0
  let main_v5 : IVec S2x261888x4 1 := cmpf .olt main_v3 main_v4
  (main_v2, main_v5)
-- ==== Kernel.lean ====
abbrev S2x261888x2 : Shape := ⟨3, ![2, 261888, 2]⟩
abbrev S2x261888x4 : Shape := ⟨3, ![2, 261888, 4]⟩
abbrev S4 : Shape := ⟨1, ![4]⟩
abbrev S2x261888x1 : Shape := ⟨3, ![2, 261888, 1]⟩
abbrev S2x261888 : Shape := ⟨2, ![2, 261888]⟩
abbrev S2x6000 : Shape := ⟨2, ![2, 6000]⟩
abbrev S2x6000x1 : Shape := ⟨3, ![2, 6000, 1]⟩
abbrev S_ : Shape := ⟨0, ![]⟩
abbrev S1 : Shape := ⟨1, ![1]⟩
abbrev S1x1x1 : Shape := ⟨3, ![1, 1, 1]⟩
abbrev S2x6000x4 : Shape := ⟨3, ![2, 6000, 4]⟩
abbrev S1x1x4 : Shape := ⟨3, ![1, 1, 4]⟩
abbrev S2x6144x4 : Shape := ⟨3, ![2, 6144, 4]⟩
abbrev S2x4x6144 : Shape := ⟨3, ![2, 4, 6144]⟩
abbrev S2x1x6144 : Shape := ⟨3, ![2, 1, 6144]⟩
abbrev S1x4x6144 : Shape := ⟨3, ![1, 4, 6144]⟩
abbrev S1x1x6144 : Shape := ⟨3, ![1, 1, 6144]⟩
abbrev S4x6144 : Shape := ⟨2, ![4, 6144]⟩
abbrev S1x6144 : Shape := ⟨2, ![1, 6144]⟩
abbrev S2x6144 : Shape := ⟨2, ![2, 6144]⟩
abbrev S2x2000 : Shape := ⟨2, ![2, 2000]⟩
abbrev S2 : Shape := ⟨1, ![2]⟩
abbrev S2x1 : Shape := ⟨2, ![2, 1]⟩
abbrev S2x6144x1 : Shape := ⟨3, ![2, 6144, 1]⟩
abbrev S2x6144x2 : Shape := ⟨3, ![2, 6144, 2]⟩
abbrev S2000 : Shape := ⟨1, ![2000]⟩
abbrev S1x2000 : Shape := ⟨2, ![1, 2000]⟩
abbrev S2x2000x1 : Shape := ⟨3, ![2, 2000, 1]⟩
abbrev S2x2000x4 : Shape := ⟨3, ![2, 2000, 4]⟩

abbrev nBuf : Space → Nat
  | .hbm => 201
  | .vmem => 8
  | .smem => 0
  | _ => 0

abbrev hbmTy0_0 (i : Nat) : BufTy := match i % 128 with
  | 0 => ⟨S2x261888x2, .f32⟩
  | 1 => ⟨S2x261888x4, .f32⟩
  | 2 => ⟨S2x261888x4, .f32⟩
  | 3 => ⟨S4, .f32⟩
  | 4 => ⟨S2x261888x1, .f32⟩
  | 5 => ⟨S2x261888, .f32⟩
  | 6 => ⟨S2x6000, .f32⟩
  | 7 => ⟨S2x6000, .i32⟩
  | 8 => ⟨S2x6000x1, .i32⟩
  | 9 => ⟨S_, .i32⟩
  | 10 => ⟨S2x6000x1, .i32⟩
  | 11 => ⟨S2x6000x1, .i1⟩
  | 12 => ⟨S_, .i32⟩
  | 13 => ⟨S2x6000x1, .i32⟩
  | 14 => ⟨S2x6000x1, .i32⟩
  | 15 => ⟨S2x6000x1, .i32⟩
  | 16 => ⟨S1, .i32⟩
  | 17 => ⟨S_, .i32⟩
  | 18 => ⟨S2x6000x1, .i32⟩
  | 19 => ⟨S2x6000x1, .i1⟩
  | 20 => ⟨S1x1x1, .i32⟩
  | 21 => ⟨S2x6000x1, .i32⟩
  | 22 => ⟨S2x6000x1, .i1⟩
  | 23 => ⟨S2x6000x1, .i1⟩
  | 24 => ⟨S_, .i1⟩
  | 25 => ⟨S2x6000, .i1⟩
  | 26 => ⟨S2x6000x4, .f32⟩
  | 27 => ⟨S2x6000x4, .i1⟩
  | 28 => ⟨S_, .f32⟩
  | 29 => ⟨S2x6000x4, .f32⟩
  | 30 => ⟨S2x6000x4, .f32⟩
  | 31 => ⟨S1x1x4, .f32⟩
  | 32 => ⟨S2x6000x4, .f32⟩
  | 33 => ⟨S2x6000x4, .f32⟩
  | 34 => ⟨S2x6000x1, .i32⟩
  | 35 => ⟨S_, .i32⟩
  | 36 => ⟨S2x6000x1, .i32⟩
  | 37 => ⟨S2x6000x1, .i1⟩
  | 38 => ⟨S_, .i32⟩
  | 39 => ⟨S2x6000x1, .i32⟩
  | 40 => ⟨S2x6000x1, .i32⟩
  | 41 => ⟨S2x6000x1, .i32⟩
  | 42 => ⟨S1, .i32⟩
  | 43 => ⟨S_, .i32⟩
  | 44 => ⟨S2x6000x1, .i32⟩
  | 45 => ⟨S2x6000x1, .i1⟩
  | 46 => ⟨S1x1x1, .i32⟩
  | 47 => ⟨S2x6000x1, .i32⟩
  | 48 => ⟨S2x6000x1, .i1⟩
  | 49 => ⟨S2x6000x1, .i1⟩
  | 50 => ⟨S_, .i1⟩
  | 51 => ⟨S2x6000, .i1⟩
  | 52 => ⟨S2x6000x4, .f32⟩
  | 53 => ⟨S2x6000x4, .i1⟩
  | 54 => ⟨S_, .f32⟩
  | 55 => ⟨S2x6000x4, .f32⟩
  | 56 => ⟨S2x6000x4, .f32⟩
  | 57 => ⟨S_, .i32⟩
  | 58 => ⟨S_, .f32⟩
  | 59 => ⟨S2x6144x4, .f32⟩
  | 60 => ⟨S_, .i32⟩
  | 61 => ⟨S_, .f32⟩
  | 62 => ⟨S2x6144x4, .f32⟩
  | 63 => ⟨S2x4x6144, .f32⟩
  | 64 => ⟨S2x4x6144, .f32⟩
  | 65 => ⟨S2x4x6144, .f32⟩
  | 66 => ⟨S2x1x6144, .f32⟩
  | 67 => ⟨S2x6144x4, .f32⟩
  | 68 => ⟨S2x6144, .f32⟩
  | 69 => ⟨S_, .f32⟩
  | 70 => ⟨S2x6144, .f32⟩
  | 71 => ⟨S2x6144, .i1⟩
  | 72 => ⟨S2x6144, .i32⟩
  | 73 => ⟨S_, .i32⟩
  | 74 => ⟨S_, .i32⟩
  | 75 => ⟨S2x6144, .i32⟩
  | 76 => ⟨S_, .i32⟩
  | 77 => ⟨S2x2000, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2x1, .i32⟩
  | 86 => ⟨S_, .i32⟩
  | 87 => ⟨S2x1, .i32⟩
  | 88 => ⟨S2x1, .i1⟩
  | 89 => ⟨S_, .i32⟩
  | 90 => ⟨S2x1, .i32⟩
  | 91 => ⟨S2x1, .i32⟩
  | 92 => ⟨S2x1, .i32⟩
  | 93 => ⟨S_, .i32⟩
  | 94 => ⟨S2x6144, .i32⟩
  | 95 => ⟨S2x6144, .i1⟩
  | 96 => ⟨S_, .i32⟩
  | 97 => ⟨S2x6144, .i32⟩
  | 98 => ⟨S2x6144, .i32⟩
  | 99 => ⟨S2x6144, .i32⟩
  | 100 => ⟨S2x6144, .i32⟩
  | 101 => ⟨S2x6144x1, .i32⟩
  | 102 => ⟨S2x6144x1, .i32⟩
  | 103 => ⟨S2x6144x2, .i32⟩
  | 104 => ⟨S_, .i32⟩
  | 105 => ⟨S2x6144, .i32⟩
  | 106 => ⟨S2x2000, .i32⟩
  | 107 => ⟨S_, .i32⟩
  | 108 => ⟨S_, .i32⟩
  | 109 => ⟨S2x2000, .i32⟩
  | 110 => ⟨S_, .i32⟩
  | 111 => ⟨S_, .i32⟩
  | 112 => ⟨S2x2000, .i32⟩
  | 113 => ⟨S2x2000, .i32⟩
  | 114 => ⟨S2x2000, .i32⟩
  | 115 => ⟨S_, .i32⟩
  | 116 => ⟨S2x2000, .i32⟩
  | 117 => ⟨S2x2000, .i1⟩
  | 118 => ⟨S2x2000, .i32⟩
  | 119 => ⟨S2x2000, .i32⟩
  | 120 => ⟨S_, .i32⟩
  | 121 => ⟨S2x2000, .i32⟩
  | 122 => ⟨S2x2000, .i1⟩
  | 123 => ⟨S2x2000, .i1⟩
  | 124 => ⟨S_, .i32⟩
  | 125 => ⟨S2x2000, .i32⟩
  | 126 => ⟨S2x2000, .i32⟩
  | 127 => ⟨S2x2000, .i32⟩
  | _ => ⟨S2x261888x2, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S2x2000, .i32⟩
  | 7 => ⟨S2x2000, .i32⟩
  | 8 => ⟨S_, .i32⟩
  | 9 => ⟨S2x2000, .i32⟩
  | 10 => ⟨S2x2000, .i1⟩
  | 11 => ⟨S_, .i32⟩
  | 12 => ⟨S2x2000, .i32⟩
  | 13 => ⟨S2x2000, .i1⟩
  | 14 => ⟨S_, .i32⟩
  | 15 => ⟨S_, .i1⟩
  | 16 => ⟨S2x2000, .i1⟩
  | 17 => ⟨S2x2000, .i1⟩
  | 18 => ⟨S2x2000, .i1⟩
  | 19 => ⟨S2x2000, .i32⟩
  | 20 => ⟨S2x2000, .i32⟩
  | 21 => ⟨S2x2000, .i32⟩
  | 22 => ⟨S2x6144, .i32⟩
  | 23 => ⟨S_, .i32⟩
  | 24 => ⟨S2, .i32⟩
  | 25 => ⟨S2x1, .i32⟩
  | 26 => ⟨S2000, .i32⟩
  | 27 => ⟨S1x2000, .i32⟩
  | 28 => ⟨S2x2000, .i32⟩
  | 29 => ⟨S2x2000, .i32⟩
  | 30 => ⟨S2x2000, .i1⟩
  | 31 => ⟨S_, .i32⟩
  | 32 => ⟨S1, .i32⟩
  | 33 => ⟨S2x2000, .i32⟩
  | 34 => ⟨S2x2000, .i32⟩
  | 35 => ⟨S_, .i32⟩
  | 36 => ⟨S2x2000, .i32⟩
  | 37 => ⟨S2x2000, .i1⟩
  | 38 => ⟨S2x2000, .f32⟩
  | 39 => ⟨S2x2000x1, .f32⟩
  | 40 => ⟨S_, .i32⟩
  | 41 => ⟨S_, .i32⟩
  | 42 => ⟨S_, .i32⟩
  | 43 => ⟨S2x2000, .i32⟩
  | 44 => ⟨S2x2000, .i32⟩
  | 45 => ⟨S_, .i32⟩
  | 46 => ⟨S2x2000, .i32⟩
  | 47 => ⟨S2x2000, .i32⟩
  | 48 => ⟨S_, .i32⟩
  | 49 => ⟨S2x2000, .i32⟩
  | 50 => ⟨S2x2000, .i1⟩
  | 51 => ⟨S_, .i32⟩
  | 52 => ⟨S2x2000, .i32⟩
  | 53 => ⟨S2x2000, .i32⟩
  | 54 => ⟨S2x2000, .i32⟩
  | 55 => ⟨S2x2000x1, .i32⟩
  | 56 => ⟨S1, .i32⟩
  | 57 => ⟨S_, .i32⟩
  | 58 => ⟨S2x2000x1, .i32⟩
  | 59 => ⟨S2x2000x1, .i1⟩
  | 60 => ⟨S1x1x1, .i32⟩
  | 61 => ⟨S2x2000x1, .i32⟩
  | 62 => ⟨S2x2000x1, .i1⟩
  | 63 => ⟨S2x2000x1, .i1⟩
  | 64 => ⟨S_, .i1⟩
  | 65 => ⟨S2x2000, .i1⟩
  | 66 => ⟨S2x2000x4, .f32⟩
  | 67 => ⟨S2x2000x4, .i1⟩
  | 68 => ⟨S_, .f32⟩
  | 69 => ⟨S2x2000x4, .f32⟩
  | 70 => ⟨S2x2000x4, .f32⟩
  | 71 => ⟨S2x2000x4, .f32⟩
  | 72 => ⟨S2x2000x4, .f32⟩
  | _ => ⟨S2x261888x2, .f32⟩

abbrev hbmTy (i : Nat) : BufTy := match i / 128 with
  | 0 => hbmTy0_0 i
  | 1 => hbmTy0_1 i
  | _ => ⟨S2x261888x2, .f32⟩

abbrev bufTy : (tb : Table) → Fin (tcTables nBuf tb) → BufTy
  | .hbm, ⟨i, _⟩ => hbmTy i
  | .local _ .vmem, ⟨0, _⟩ => ⟨S1x4x6144, .f32⟩
  | .local _ .vmem, ⟨1, _⟩ => ⟨S1x4x6144, .f32⟩
  | .local _ .vmem, ⟨2, _⟩ => ⟨S1x4x6144, .f32⟩
  | .local _ .vmem, ⟨3, _⟩ => ⟨S1x4x6144, .f32⟩
  | .local _ .vmem, ⟨4, _⟩ => ⟨S1x4x6144, .f32⟩
  | .local _ .vmem, ⟨5, _⟩ => ⟨S1x4x6144, .f32⟩
  | .local _ .vmem, ⟨6, _⟩ => ⟨S1x1x6144, .f32⟩
  | .local _ .vmem, ⟨7, _⟩ => ⟨S1x1x6144, .f32⟩
  | _, _ => ⟨S2x261888x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v8 : Ref sig .tc := ⟨.hbm, 56, rfl⟩
abbrev main_c : Ref sig .tc := ⟨.hbm, 57, rfl⟩
abbrev main_call2_v0 : Ref sig .tc := ⟨.hbm, 58, rfl⟩
abbrev main_v9 : Ref sig .tc := ⟨.hbm, 59, rfl⟩
abbrev main_c_0 : Ref sig .tc := ⟨.hbm, 60, rfl⟩
abbrev main_call3_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13_0 : Ref sig .tc := ⟨.hbm, 65, rfl⟩
abbrev main_v13_1 : Ref sig .tc := ⟨.hbm, 66, rfl⟩
abbrev main_v14 : Ref sig .tc := ⟨.hbm, 67, rfl⟩
abbrev main_v15 : Ref sig .tc := ⟨.hbm, 68, rfl⟩
abbrev main_cst_1 : Ref sig .tc := ⟨.hbm, 69, rfl⟩
abbrev main_v16 : Ref sig .tc := ⟨.hbm, 70, rfl⟩
abbrev main_v17 : Ref sig .tc := ⟨.hbm, 71, rfl⟩
abbrev main_call4_v0 : Ref sig .tc := ⟨.hbm, 72, rfl⟩
abbrev main_call4_call0_c : Ref sig .tc := ⟨.hbm, 73, rfl⟩
abbrev main_call4_call0_v0 : Ref sig .tc := ⟨.hbm, 74, rfl⟩
abbrev main_v18 : Ref sig .tc := ⟨.hbm, 75, rfl⟩
abbrev main_c_2 : Ref sig .tc := ⟨.hbm, 76, rfl⟩
abbrev main_v19 : Ref sig .tc := ⟨.hbm, 77, rfl⟩
abbrev main_v20 : Ref sig .tc := ⟨.hbm, 78, rfl⟩
abbrev main_c_3 : Ref sig .tc := ⟨.hbm, 79, rfl⟩
abbrev main_v21 : Ref sig .tc := ⟨.hbm, 80, rfl⟩
abbrev main_v22 : Ref sig .tc := ⟨.hbm, 81, rfl⟩
abbrev main_c_4 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_c_5 : Ref sig .tc := ⟨.hbm, 86, rfl⟩
abbrev main_v26 : Ref sig .tc := ⟨.hbm, 87, rfl⟩
abbrev main_v27 : Ref sig .tc := ⟨.hbm, 88, rfl⟩
abbrev main_c_6 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_c_7 : Ref sig .tc := ⟨.hbm, 93, rfl⟩
abbrev main_v31 : Ref sig .tc := ⟨.hbm, 94, rfl⟩
abbrev main_v32 : Ref sig .tc := ⟨.hbm, 95, rfl⟩
abbrev main_c_8 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_c_9 : Ref sig .tc := ⟨.hbm, 104, rfl⟩
abbrev main_v40 : Ref sig .tc := ⟨.hbm, 105, rfl⟩
abbrev main_v41 : Ref sig .tc := ⟨.hbm, 106, rfl⟩
abbrev main_call5_call0_c : Ref sig .tc := ⟨.hbm, 107, rfl⟩
abbrev main_call5_call0_v0 : Ref sig .tc := ⟨.hbm, 108, rfl⟩
abbrev main_v42 : Ref sig .tc := ⟨.hbm, 109, rfl⟩
abbrev main_c_10 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_v6 : Ref sig .tc := ⟨.hbm, 117, rfl⟩
abbrev main_call6_v7 : Ref sig .tc := ⟨.hbm, 118, rfl⟩
abbrev main_call6_v8 : Ref sig .tc := ⟨.hbm, 119, rfl⟩
abbrev main_call6_c : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_0 : Ref sig .tc := ⟨.hbm, 124, rfl⟩
abbrev main_call6_v12 : Ref sig .tc := ⟨.hbm, 125, rfl⟩
abbrev main_call6_v13 : Ref sig .tc := ⟨.hbm, 126, rfl⟩
abbrev main_v43 : Ref sig .tc := ⟨.hbm, 127, rfl⟩
abbrev main_c_11 : Ref sig .tc := ⟨.hbm, 128, rfl⟩
abbrev main_call7_v0 : Ref sig .tc := ⟨.hbm, 129, rfl⟩
abbrev main_call7_c : Ref sig .tc := ⟨.hbm, 130, rfl⟩
abbrev main_call7_v1 : Ref sig .tc := ⟨.hbm, 131, rfl⟩
abbrev main_call7_c_0 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_call7_c_1 : Ref sig .tc := ⟨.hbm, 136, rfl⟩
abbrev main_call7_v5 : Ref sig .tc := ⟨.hbm, 137, rfl⟩
abbrev main_call7_v6 : Ref sig .tc := ⟨.hbm, 138, rfl⟩
abbrev main_call7_c_2 : Ref sig .tc := ⟨.hbm, 139, rfl⟩
abbrev main_call7_v7 : Ref sig .tc := ⟨.hbm, 140, rfl⟩
abbrev main_call7_v8 : Ref sig .tc := ⟨.hbm, 141, rfl⟩
abbrev main_call7_c_3 : Ref sig .tc := ⟨.hbm, 142, rfl⟩
abbrev main_call7_v9 : Ref sig .tc := ⟨.hbm, 143, rfl⟩
abbrev main_call7_v10 : Ref sig .tc := ⟨.hbm, 144, rfl⟩
abbrev main_call7_v11 : Ref sig .tc := ⟨.hbm, 145, rfl⟩
abbrev main_call7_v12 : Ref sig .tc := ⟨.hbm, 146, rfl⟩
abbrev main_call7_v13 : Ref sig .tc := ⟨.hbm, 147, rfl⟩
abbrev main_call7_v14 : Ref sig .tc := ⟨.hbm, 148, rfl⟩
abbrev main_v44 : Ref sig .tc := ⟨.hbm, 149, rfl⟩
abbrev main_v45 : Ref sig .tc := ⟨.hbm, 150, rfl⟩
abbrev main_c_12 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_c_13 : Ref sig .tc := ⟨.hbm, 159, rfl⟩
abbrev main_v53 : Ref sig .tc := ⟨.hbm, 160, rfl⟩
abbrev main_call8_v0 : Ref sig .tc := ⟨.hbm, 161, rfl⟩
abbrev main_v54 : Ref sig .tc := ⟨.hbm, 162, rfl⟩
abbrev main_c_14 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_c_15 : Ref sig .tc := ⟨.hbm, 168, rfl⟩
abbrev main_c_16 : Ref sig .tc := ⟨.hbm, 169, rfl⟩
abbrev main_call9_v0 : Ref sig .tc := ⟨.hbm, 170, rfl⟩
abbrev main_call9_v1 : Ref sig .tc := ⟨.hbm, 171, rfl⟩
abbrev main_call9_v2 : Ref sig .tc := ⟨.hbm, 172, rfl⟩
abbrev main_call9_v3 : Ref sig .tc := ⟨.hbm, 173, rfl⟩
abbrev main_call9_v4 : Ref sig .tc := ⟨.hbm, 174, rfl⟩
abbrev main_v59 : Ref sig .tc := ⟨.hbm, 175, rfl⟩
abbrev main_call10_c : Ref sig .tc := ⟨.hbm, 176, rfl⟩
abbrev main_call10_v0 : Ref sig .tc := ⟨.hbm, 177, rfl⟩
abbrev main_call10_v1 : Ref sig .tc := ⟨.hbm, 178, rfl⟩
abbrev main_call10_c_0 : Ref sig .tc := ⟨.hbm, 179, rfl⟩
abbrev main_call10_v2 : Ref sig .tc := ⟨.hbm, 180, rfl⟩
abbrev main_call10_v3 : Ref sig .tc := ⟨.hbm, 181, rfl⟩
abbrev main_call10_v4 : Ref sig .tc := ⟨.hbm, 182, rfl⟩
abbrev main_call10_v5 : Ref sig .tc := ⟨.hbm, 183, rfl⟩
abbrev main_call10_c_1 : Ref sig .tc := ⟨.hbm, 184, rfl⟩
abbrev main_call10_c_2 : Ref sig .tc := ⟨.hbm, 185, rfl⟩
abbrev main_call10_v6 : Ref sig .tc := ⟨.hbm, 186, rfl⟩
abbrev main_call10_v7 : Ref sig .tc := ⟨.hbm, 187, rfl⟩
abbrev main_call10_v8 : Ref sig .tc := ⟨.hbm, 188, rfl⟩
abbrev main_call10_v9 : Ref sig .tc := ⟨.hbm, 189, rfl⟩
abbrev main_call10_v10 : Ref sig .tc := ⟨.hbm, 190, rfl⟩
abbrev main_call10_v11 : Ref sig .tc := ⟨.hbm, 191, rfl⟩
abbrev main_call10_c_3 : Ref sig .tc := ⟨.hbm, 192, rfl⟩
abbrev main_call10_v12 : Ref sig .tc := ⟨.hbm, 193, rfl⟩
abbrev main_call10_v13 : Ref sig .tc := ⟨.hbm, 194, rfl⟩
abbrev main_call10_v14 : Ref sig .tc := ⟨.hbm, 195, rfl⟩
abbrev main_call10_cst : Ref sig .tc := ⟨.hbm, 196, rfl⟩
abbrev main_call10_v15 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c6000_i32_21 : BitVec 32 := 6000#32
  let v68 : BitVec 32 := Scalar.addi c0_i32 c6000_i32_21
  let c1_i32 : BitVec 32 := 1#32
  ⟨c0_i32, v68, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x261888x2 : Shape := ⟨3, ![2, 261888, 2]⟩
abbrev S2x261888x4 : Shape := ⟨3, ![2, 261888, 4]⟩
abbrev S4 : Shape := ⟨1, ![4]⟩
abbrev S2x261888x1 : Shape := ⟨3, ![2, 261888, 1]⟩
abbrev S2x261888 : Shape := ⟨2, ![2, 261888]⟩
abbrev S1x1x4 : Shape := ⟨3, ![1, 1, 4]⟩
abbrev S2x6000 : Shape := ⟨2, ![2, 6000]⟩
abbrev S2x6000x1 : Shape := ⟨3, ![2, 6000, 1]⟩
abbrev S_ : Shape := ⟨0, ![]⟩
abbrev S1 : Shape := ⟨1, ![1]⟩
abbrev S1x1x1 : Shape := ⟨3, ![1, 1, 1]⟩
abbrev S2x6000x4 : Shape := ⟨3, ![2, 6000, 4]⟩
abbrev S2x1x6000 : Shape := ⟨3, ![2, 1, 6000]⟩
abbrev S2x6000x6000 : Shape := ⟨3, ![2, 6000, 6000]⟩
abbrev S6000 : Shape := ⟨1, ![6000]⟩
abbrev S2x1 : Shape := ⟨2, ![2, 1]⟩
abbrev S2 : Shape := ⟨1, ![2]⟩
abbrev S1x6000 : Shape := ⟨2, ![1, 6000]⟩
abbrev S2x2000 : Shape := ⟨2, ![2, 2000]⟩
abbrev S2x6000x2 : Shape := ⟨3, ![2, 6000, 2]⟩
abbrev S2000 : Shape := ⟨1, ![2000]⟩
abbrev S1x2000 : Shape := ⟨2, ![1, 2000]⟩
abbrev S2x2000x1 : Shape := ⟨3, ![2, 2000, 1]⟩
abbrev S2x2000x4 : Shape := ⟨3, ![2, 2000, 4]⟩

abbrev nBuf : Space → Nat
  | .hbm => 367
  | .vmem => 0
  | .smem => 0
  | _ => 0

abbrev hbmTy0_0 (i : Nat) : BufTy := match i % 128 with
  | 0 => ⟨S2x261888x2, .f32⟩
  | 1 => ⟨S2x261888x4, .f32⟩
  | 2 => ⟨S2x261888x4, .f32⟩
  | 3 => ⟨S4, .f32⟩
  | 4 => ⟨S2x261888x1, .f32⟩
  | 5 => ⟨S2x261888, .f32⟩
  | 6 => ⟨S1x1x4, .f32⟩
  | 7 => ⟨S2x261888x4, .f32⟩
  | 8 => ⟨S2x261888x4, .f32⟩
  | 9 => ⟨S2x6000, .f32⟩
  | 10 => ⟨S2x6000, .i32⟩
  | 11 => ⟨S2x6000x1, .i32⟩
  | 12 => ⟨S_, .i32⟩
  | 13 => ⟨S2x6000x1, .i32⟩
  | 14 => ⟨S2x6000x1, .i1⟩
  | 15 => ⟨S_, .i32⟩
  | 16 => ⟨S2x6000x1, .i32⟩
  | 17 => ⟨S2x6000x1, .i32⟩
  | 18 => ⟨S2x6000x1, .i32⟩
  | 19 => ⟨S1, .i32⟩
  | 20 => ⟨S_, .i32⟩
  | 21 => ⟨S2x6000x1, .i32⟩
  | 22 => ⟨S2x6000x1, .i1⟩
  | 23 => ⟨S1x1x1, .i32⟩
  | 24 => ⟨S2x6000x1, .i32⟩
  | 25 => ⟨S2x6000x1, .i1⟩
  | 26 => ⟨S2x6000x1, .i1⟩
  | 27 => ⟨S_, .i1⟩
  | 28 => ⟨S2x6000, .i1⟩
  | 29 => ⟨S2x6000x4, .f32⟩
  | 30 => ⟨S2x6000x4, .i1⟩
  | 31 => ⟨S_, .f32⟩
  | 32 => ⟨S2x6000x4, .f32⟩
  | 33 => ⟨S2x6000x4, .f32⟩
  | 34 => ⟨S2x6000x1, .i32⟩
  | 35 => ⟨S_, .i32⟩
  | 36 => ⟨S2x6000x1, .i32⟩
  | 37 => ⟨S2x6000x1, .i1⟩
  | 38 => ⟨S_, .i32⟩
  | 39 => ⟨S2x6000x1, .i32⟩
  | 40 => ⟨S2x6000x1, .i32⟩
  | 41 => ⟨S2x6000x1, .i32⟩
  | 42 => ⟨S1, .i32⟩
  | 43 => ⟨S_, .i32⟩
  | 44 => ⟨S2x6000x1, .i32⟩
  | 45 => ⟨S2x6000x1, .i1⟩
  | 46 => ⟨S1x1x1, .i32⟩
  | 47 => ⟨S2x6000x1, .i32⟩
  | 48 => ⟨S2x6000x1, .i1⟩
  | 49 => ⟨S2x6000x1, .i1⟩
  | 50 => ⟨S_, .i1⟩
  | 51 => ⟨S2x6000, .i1⟩
  | 52 => ⟨S2x6000x4, .f32⟩
  | 53 => ⟨S2x6000x4, .i1⟩
  | 54 => ⟨S_, .f32⟩
  | 55 => ⟨S2x6000x4, .f32⟩
  | 56 => ⟨S2x6000x4, .f32⟩
  | 57 => ⟨S2x6000x1, .f32⟩
  | 58 => ⟨S2x6000, .f32⟩
  | 59 => ⟨S2x6000x1, .f32⟩
  | 60 => ⟨S2x6000, .f32⟩
  | 61 => ⟨S2x6000, .f32⟩
  | 62 => ⟨S2x6000x1, .f32⟩
  | 63 => ⟨S2x6000, .f32⟩
  | 64 => ⟨S2x6000x1, .f32⟩
  | 65 => ⟨S2x6000, .f32⟩
  | 66 => ⟨S2x6000, .f32⟩
  | 67 => ⟨S2x6000x1, .f32⟩
  | 68 => ⟨S2x6000, .f32⟩
  | 69 => ⟨S_, .f32⟩
  | 70 => ⟨S2x6000, .f32⟩
  | 71 => ⟨S2x6000, .f32⟩
  | 72 => ⟨S2x6000, .f32⟩
  | 73 => ⟨S2x6000x1, .f32⟩
  | 74 => ⟨S2x6000, .f32⟩
  | 75 => ⟨S_, .f32⟩
  | 76 => ⟨S2x6000, .f32⟩
  | 77 => ⟨S2x6000, .f32⟩
  | 78 => ⟨S2x6000, .f32⟩
  | 79 => ⟨S2x6000x1, .f32⟩
  | 80 => ⟨S2x6000, .f32⟩
  | 81 => ⟨S2x6000, .f32⟩
  | 82 => ⟨S2x6000, .f32⟩
  | 83 => ⟨S2x6000x1, .f32⟩
  | 84 => ⟨S2x6000, .f32⟩
  | 85 => ⟨S2x6000, .f32⟩
  | 86 => ⟨S2x6000, .f32⟩
  | 87 => ⟨S2x6000x1, .f32⟩
  | 88 => ⟨S2x6000, .f32⟩
  | 89 => ⟨S2x6000, .f32⟩
  | 90 => ⟨S2x6000, .f32⟩
  | 91 => ⟨S2x6000x1, .f32⟩
  | 92 => ⟨S2x6000, .f32⟩
  | 93 => ⟨S2x6000, .f32⟩
  | 94 => ⟨S2x6000, .f32⟩
  | 95 => ⟨S_, .f32⟩
  | 96 => ⟨S2x6000, .f32⟩
  | 97 => ⟨S2x6000, .f32⟩
  | 98 => ⟨S2x6000, .f32⟩
  | 99 => ⟨S_, .f32⟩
  | 100 => ⟨S2x6000, .f32⟩
  | 101 => ⟨S2x6000, .f32⟩
  | 102 => ⟨S2x6000, .f32⟩
  | 103 => ⟨S2x6000, .f32⟩
  | 104 => ⟨S2x6000, .f32⟩
  | 105 => ⟨S2x6000x1, .f32⟩
  | 106 => ⟨S2x6000x1, .f32⟩
  | 107 => ⟨S2x6000x1, .f32⟩
  | 108 => ⟨S2x6000x1, .f32⟩
  | 109 => ⟨S2x6000x4, .f32⟩
  | 110 => ⟨S_, .f32⟩
  | 111 => ⟨S_, .f32⟩
  | 112 => ⟨S_, .f32⟩
  | 113 => ⟨S2x6000x4, .f32⟩
  | 114 => ⟨S2x6000x4, .f32⟩
  | 115 => ⟨S_, .f32⟩
  | 116 => ⟨S2x6000x4, .f32⟩
  | 117 => ⟨S2x6000x4, .f32⟩
  | 118 => ⟨S2x6000x1, .f32⟩
  | 119 => ⟨S2x6000, .f32⟩
  | 120 => ⟨S2x6000x1, .f32⟩
  | 121 => ⟨S2x6000, .f32⟩
  | 122 => ⟨S2x6000x1, .f32⟩
  | 123 => ⟨S2x6000, .f32⟩
  | 124 => ⟨S2x6000x1, .f32⟩
  | 125 => ⟨S2x6000, .f32⟩
  | 126 => ⟨S2x6000, .f32⟩
  | 127 => ⟨S2x6000, .f32⟩
  | _ => ⟨S2x261888x2, .f32⟩

abbrev hbmTy0_1 (i : Nat) : BufTy := match i % 128 with
  | 0 => ⟨S2x6000, .f32⟩
  | 1 => ⟨S2x6000x1, .f32⟩
  | 2 => ⟨S2x1x6000, .f32⟩
  | 3 => ⟨S2x6000x6000, .f32⟩
  | 4 => ⟨S2x6000x6000, .f32⟩
  | 5 => ⟨S2x6000x6000, .f32⟩
  | 6 => ⟨S2x6000x1, .f32⟩
  | 7 => ⟨S2x1x6000, .f32⟩
  | 8 => ⟨S2x6000x6000, .f32⟩
  | 9 => ⟨S2x6000x6000, .f32⟩
  | 10 => ⟨S2x6000x6000, .f32⟩
  | 11 => ⟨S2x6000x1, .f32⟩
  | 12 => ⟨S2x1x6000, .f32⟩
  | 13 => ⟨S2x6000x6000, .f32⟩
  | 14 => ⟨S2x6000x6000, .f32⟩
  | 15 => ⟨S2x6000x6000, .f32⟩
  | 16 => ⟨S2x6000x1, .f32⟩
  | 17 => ⟨S2x1x6000, .f32⟩
  | 18 => ⟨S2x6000x6000, .f32⟩
  | 19 => ⟨S2x6000x6000, .f32⟩
  | 20 => ⟨S2x6000x6000, .f32⟩
  | 21 => ⟨S2x6000x6000, .f32⟩
  | 22 => ⟨S_, .f32⟩
  | 23 => ⟨S2x6000x6000, .f32⟩
  | 24 => ⟨S2x6000x6000, .f32⟩
  | 25 => ⟨S2x6000x6000, .f32⟩
  | 26 => ⟨S_, .f32⟩
  | 27 => ⟨S2x6000x6000, .f32⟩
  | 28 => ⟨S2x6000x6000, .f32⟩
  | 29 => ⟨S2x6000x6000, .f32⟩
  | 30 => ⟨S2x6000x1, .f32⟩
  | 31 => ⟨S2x1x6000, .f32⟩
  | 32 => ⟨S2x6000x6000, .f32⟩
  | 33 => ⟨S2x6000x6000, .f32⟩
  | 34 => ⟨S2x6000x6000, .f32⟩
  | 35 => ⟨S2x6000x6000, .f32⟩
  | 36 => ⟨S_, .f32⟩
  | 37 => ⟨S2x6000x6000, .f32⟩
  | 38 => ⟨S2x6000x6000, .f32⟩
  | 39 => ⟨S2x6000x6000, .f32⟩
  | 40 => ⟨S6000, .i32⟩
  | 41 => ⟨S_, .i1⟩
  | 42 => ⟨S2x6000, .i1⟩
  | 43 => ⟨S_, .i32⟩
  | 44 => ⟨S_, .i32⟩
  | 45 => ⟨S2x6000x6000, .f32⟩
  | 46 => ⟨S6000, .i32⟩
  | 47 => ⟨S_, .i32⟩
  | 48 => ⟨S_, .i32⟩
  | 49 => ⟨S2x6000, .i1⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S2x1x6000, .f32⟩
  | 77 => ⟨S2x6000, .f32⟩
  | 78 => ⟨S_, .f32⟩
  | 79 => ⟨S2x6000, .f32⟩
  | 80 => ⟨S2x6000, .i1⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S2x1, .i1⟩
  | 96 => ⟨S2, .i1⟩
  | 97 => ⟨S2x1, .i1⟩
  | 98 => ⟨S2x6000, .i1⟩
  | 99 => ⟨S2x6000, .i1⟩
  | 100 => ⟨S_, .i32⟩
  | 101 => ⟨S6000, .i32⟩
  | 102 => ⟨S6000, .i1⟩
  | 103 => ⟨S1x6000, .i1⟩
  | 104 => ⟨S2x6000, .i1⟩
  | 105 => ⟨S2x6000, .i1⟩
  | 106 => ⟨S2x6000, .i1⟩
  | 107 => ⟨S2x6000, .i1⟩
  | 108 => ⟨S_, .i32⟩
  | 109 => ⟨S_, .i32⟩
  | 110 => ⟨S2x6000, .i32⟩
  | 111 => ⟨S_, .i32⟩
  | 112 => ⟨S_, .i32⟩
  | 113 => ⟨S2x6000, .i32⟩
  | 114 => ⟨S_, .i32⟩
  | 115 => ⟨S2x2000, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2x1, .i32⟩
  | 124 => ⟨S_, .i32⟩
  | 125 => ⟨S2x1, .i32⟩
  | 126 => ⟨S2x1, .i1⟩
  | 127 => ⟨S_, .i32⟩
  | _ => ⟨S2x261888x2, .f32⟩

abbrev hbmTy0_2 (i : Nat) : BufTy := match i % 128 with
  | 0 => ⟨S2x1, .i32⟩
  | 1 => ⟨S2x1, .i32⟩
  | 2 => ⟨S2x1, .i32⟩
  | 3 => ⟨S_, .i32⟩
  | 4 => ⟨S2x6000, .i32⟩
  | 5 => ⟨S2x6000, .i1⟩
  | 6 => ⟨S_, .i32⟩
  | 7 => ⟨S2x6000, .i32⟩
  | 8 => ⟨S2x6000, .i32⟩
  | 9 => ⟨S2x6000, .i32⟩
  | 10 => ⟨S2x6000, .i32⟩
  | 11 => ⟨S2x6000x1, .i32⟩
  | 12 => ⟨S2x6000x1, .i32⟩
  | 13 => ⟨S2x6000x2, .i32⟩
  | 14 => ⟨S_, .i32⟩
  | 15 => ⟨S2x6000, .i32⟩
  | 16 => ⟨S2x2000, .i32⟩
  | 17 => ⟨S_, .i32⟩
  | 18 => ⟨S_, .i32⟩
  | 19 => ⟨S2x2000, .i32⟩
  | 20 => ⟨S_, .i32⟩
  | 21 => ⟨S_, .i32⟩
  | 22 => ⟨S2x2000, .i32⟩
  | 23 => ⟨S2x2000, .i32⟩
  | 24 => ⟨S2x2000, .i32⟩
  | 25 => ⟨S_, .i32⟩
  | 26 => ⟨S2x2000, .i32⟩
  | 27 => ⟨S2x2000, .i1⟩
  | 28 => ⟨S2x2000, .i32⟩
  | 29 => ⟨S2x2000, .i32⟩
  | 30 => ⟨S_, .i32⟩
  | 31 => ⟨S2x2000, .i32⟩
  | 32 => ⟨S2x2000, .i1⟩
  | 33 => ⟨S2x2000, .i1⟩
  | 34 => ⟨S_, .i32⟩
  | 35 => ⟨S2x2000, .i32⟩
  | 36 => ⟨S2x2000, .i32⟩
  | 37 => ⟨S2x2000, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2x2000, .i32⟩
  | 45 => ⟨S2x2000, .i32⟩
  | 46 => ⟨S_, .i32⟩
  | 47 => ⟨S2x2000, .i32⟩
  | 48 => ⟨S2x2000, .i1⟩
  | 49 => ⟨S_, .i32⟩
  | 50 => ⟨S2x2000, .i32⟩
  | 51 => ⟨S2x2000, .i1⟩
  | 52 => ⟨S_, .i32⟩
  | 53 => ⟨S_, .i1⟩
  | 54 => ⟨S2x2000, .i1⟩
  | 55 => ⟨S2x2000, .i1⟩
  | 56 => ⟨S2x2000, .i1⟩
  | 57 => ⟨S2x2000, .i32⟩
  | 58 => ⟨S2x2000, .i32⟩
  | 59 => ⟨S2x2000, .i32⟩
  | 60 => ⟨S2x6000, .i32⟩
  | 61 => ⟨S_, .i32⟩
  | 62 => ⟨S2, .i32⟩
  | 63 => ⟨S2x1, .i32⟩
  | 64 => ⟨S2000, .i32⟩
  | 65 => ⟨S1x2000, .i32⟩
  | 66 => ⟨S2x2000, .i32⟩
  | 67 => ⟨S2x2000, .i32⟩
  | 68 => ⟨S2x2000, .i1⟩
  | 69 => ⟨S_, .i32⟩
  | 70 => ⟨S1, .i32⟩
  | 71 => ⟨S2x2000, .i32⟩
  | 72 => ⟨S2x2000, .i32⟩
  | 73 => ⟨S_, .i32⟩
  | 74 => ⟨S2x2000, .i32⟩
  | 75 => ⟨S2x2000, .i1⟩
  | 76 => ⟨S2x2000, .f32⟩
  | 77 => ⟨S2x2000x1, .f32⟩
  | 78 => ⟨S_, .i32⟩
  | 79 => ⟨S_, .i32⟩
  | 80 => ⟨S_, .i32⟩
  | 81 => ⟨S2x2000, .i32⟩
  | 82 => ⟨S2x2000, .i32⟩
  | 83 => ⟨S_, .i32⟩
  | 84 => ⟨S2x2000, .i32⟩
  | 85 => ⟨S2x2000, .i32⟩
  | 86 => ⟨S_, .i32⟩
  | 87 => ⟨S2x2000, .i32⟩
  | 88 => ⟨S2x2000, .i1⟩
  | 89 => ⟨S_, .i32⟩
  | 90 => ⟨S2x2000, .i32⟩
  | 91 => ⟨S2x2000, .i32⟩
  | 92 => ⟨S2x2000, .i32⟩
  | 93 => ⟨S2x2000x1, .i32⟩
  | 94 => ⟨S1, .i32⟩
  | 95 => ⟨S_, .i32⟩
  | 96 => ⟨S2x2000x1, .i32⟩
  | 97 => ⟨S2x2000x1, .i1⟩
  | 98 => ⟨S1x1x1, .i32⟩
  | 99 => ⟨S2x2000x1, .i32⟩
  | 100 => ⟨S2x2000x1, .i1⟩
  | 101 => ⟨S2x2000x1, .i1⟩
  | 102 => ⟨S_, .i1⟩
  | 103 => ⟨S2x2000, .i1⟩
  | 104 => ⟨S2x2000x4, .f32⟩
  | 105 => ⟨S2x2000x4, .i1⟩
  | 106 => ⟨S_, .f32⟩
  | 107 => ⟨S2x2000x4, .f32⟩
  | 108 => ⟨S2x2000x4, .f32⟩
  | 109 => ⟨S2x2000x4, .f32⟩
  | 110 => ⟨S2x2000x4, .f32⟩
  | _ => ⟨S2x261888x2, .f32⟩

abbrev hbmTy (i : Nat) : BufTy := match i / 128 with
  | 0 => hbmTy0_0 i
  | 1 => hbmTy0_1 i
  | 2 => hbmTy0_2 i
  | _ => ⟨S2x261888x2, .f32⟩

abbrev bufTy : (tb : Table) → Fin (tcTables nBuf tb) → BufTy
  | .hbm, ⟨i, _⟩ => hbmTy i
  | _, _ => ⟨S2x261888x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v6 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_cst_0 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_1 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_2 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_3 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_4 : Ref sig .tc := ⟨.hbm, 110, rfl⟩
abbrev main_cst_5 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_6 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_7 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_8 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_c : Ref sig .tc := ⟨.hbm, 169, rfl⟩
abbrev main_v107 : Ref sig .tc := ⟨.hbm, 170, rfl⟩
abbrev main_c_9 : Ref sig .tc := ⟨.hbm, 171, rfl⟩
abbrev main_c_10 : Ref sig .tc := ⟨.hbm, 172, rfl⟩
abbrev main_v108_0 : Ref sig .tc := ⟨.hbm, 173, rfl⟩
abbrev main_v108_1 : Ref sig .tc := ⟨.hbm, 174, rfl⟩
abbrev main_v108_2 : Ref sig .tc := ⟨.hbm, 175, rfl⟩
abbrev main_v108_3 : Ref sig .tc := ⟨.hbm, 176, rfl⟩
abbrev main_v108_4 : Ref sig .tc := ⟨.hbm, 177, rfl⟩
abbrev main_while0c_c_30 : Ref sig .tc := ⟨.hbm, 178, rfl⟩
abbrev main_while0c_v154 : Ref sig .tc := ⟨.hbm, 179, rfl⟩
abbrev main_while0b_c_30 : Ref sig .tc := ⟨.hbm, 180, rfl⟩
abbrev main_while0b_v154 : Ref sig .tc := ⟨.hbm, 181, rfl⟩
abbrev main_while0b_v155 : Ref sig .tc := ⟨.hbm, 182, rfl⟩
abbrev main_while0b_c_31 : Ref sig .tc := ⟨.hbm, 183, rfl⟩
abbrev main_while0b_c_32 : Ref sig .tc := ⟨.hbm, 184, rfl⟩
abbrev main_while0b_v156 : Ref sig .tc := ⟨.hbm, 185, rfl⟩
abbrev main_while0b_c_33 : Ref sig .tc := ⟨.hbm, 186, rfl⟩
abbrev main_while0b_c_34 : Ref sig .tc := ⟨.hbm, 187, rfl⟩
abbrev main_while0b_v157 : Ref sig .tc := ⟨.hbm, 188, rfl⟩
abbrev main_while0b_c_35 : Ref sig .tc := ⟨.hbm, 189, rfl⟩
abbrev main_while0b_v158 : Ref sig .tc := ⟨.hbm, 190, rfl⟩
abbrev main_while0b_c_36 : Ref sig .tc := ⟨.hbm, 191, rfl⟩
abbrev main_while0b_v159 : Ref sig .tc := ⟨.hbm, 192, rfl⟩
abbrev main_while0b_c_37 : Ref sig .tc := ⟨.hbm, 193, rfl⟩
abbrev main_while0b_v160 : Ref sig .tc := ⟨.hbm, 194, rfl⟩
abbrev main_while0b_v161 : Ref sig .tc := ⟨.hbm, 195, rfl⟩
abbrev main_while0b_c_38 : Ref sig .tc := ⟨.hbm, 196, rfl⟩
abbrev main_while0b_c_39 : Ref sig .tc := ⟨.hbm, 197, rfl⟩
abbrev main_while0b_v162 : Ref sig .tc := ⟨.hbm, 198, rfl⟩
abbrev main_while0b_c_40 : Ref sig .tc := ⟨.hbm, 199, rfl⟩
abbrev main_while0b_c_41 : Ref sig .tc := ⟨.hbm, 200, rfl⟩
abbrev main_while0b_v163 : Ref sig .tc := ⟨.hbm, 201, rfl⟩
abbrev main_while0b_c_42 : Ref sig .tc := ⟨.hbm, 202, rfl⟩
abbrev main_while0b_v164 : Ref sig .tc := ⟨.hbm, 203, rfl⟩
abbrev main_while0b_v165 : Ref sig .tc := ⟨.hbm, 204, rfl⟩
abbrev main_while0b_v166 : Ref sig .tc := ⟨.hbm, 205, rfl⟩
abbrev main_while0b_cst_43 : Ref sig .tc := ⟨.hbm, 206, rfl⟩
abbrev main_while0b_v167 : Ref sig .tc := ⟨.hbm, 207, rfl⟩
abbrev main_while0b_v168 : Ref sig .tc := ⟨.hbm, 208, rfl⟩
abbrev main_while0b_v169 : Ref sig .tc := ⟨.hbm, 209, rfl⟩
abbrev main_while0b_c_44 : Ref sig .tc := ⟨.hbm, 210, rfl⟩
abbrev main_while0b_c_45 : Ref sig .tc := ⟨.hbm, 211, rfl⟩
abbrev main_while0b_v170 : Ref sig .tc := ⟨.hbm, 212, rfl⟩
abbrev main_while0b_c_46 : Ref sig .tc := ⟨.hbm, 213, rfl⟩
abbrev main_while0b_c_47 : Ref sig .tc := ⟨.hbm, 214, rfl⟩
abbrev main_while0b_v171 : Ref sig .tc := ⟨.hbm, 215, rfl⟩
abbrev main_while0b_c_48 : Ref sig .tc := ⟨.hbm, 216, rfl⟩
abbrev main_while0b_v172 : Ref sig .tc := ⟨.hbm, 217, rfl⟩
abbrev main_while0b_c_49 : Ref sig .tc := ⟨.hbm, 218, rfl⟩
abbrev main_while0b_v173 : Ref sig .tc := ⟨.hbm, 219, rfl⟩
abbrev main_while0b_c_50 : Ref sig .tc := ⟨.hbm, 220, rfl⟩
abbrev main_while0b_v174 : Ref sig .tc := ⟨.hbm, 221, rfl⟩
abbrev main_while0b_v175 : Ref sig .tc := ⟨.hbm, 222, rfl⟩
abbrev main_while0b_v176 : Ref sig .tc := ⟨.hbm, 223, rfl⟩
abbrev main_while0b_v177 : Ref sig .tc := ⟨.hbm, 224, rfl⟩
abbrev main_while0b_v178 : Ref sig .tc := ⟨.hbm, 225, rfl⟩
abbrev main_while0b_v179 : Ref sig .tc := ⟨.hbm, 226, rfl⟩
abbrev main_while0b_v180 : Ref sig .tc := ⟨.hbm, 227, rfl⟩
abbrev main_while0b_v181 : Ref sig .tc := ⟨.hbm, 228, rfl⟩
abbrev main_while0b_v182 : Ref sig .tc := ⟨.hbm, 229, rfl⟩
abbrev main_while0b_v183 : Ref sig .tc := ⟨.hbm, 230, rfl⟩
abbrev main_while0b_v184 : Ref sig .tc := ⟨.hbm, 231, rfl⟩
abbrev main_while0b_v185 : Ref sig .tc := ⟨.hbm, 232, rfl⟩
abbrev main_while0b_v186 : Ref sig .tc := ⟨.hbm, 233, rfl⟩
abbrev main_while0b_v187 : Ref sig .tc := ⟨.hbm, 234, rfl⟩
abbrev main_while0b_v188 : Ref sig .tc := ⟨.hbm, 235, rfl⟩
abbrev main_while0b_c_51 : Ref sig .tc := ⟨.hbm, 236, rfl⟩
abbrev main_while0b_v189 : Ref sig .tc := ⟨.hbm, 237, rfl⟩
abbrev main_call3_v0 : Ref sig .tc := ⟨.hbm, 238, rfl⟩
abbrev main_call3_call0_c : Ref sig .tc := ⟨.hbm, 239, rfl⟩
abbrev main_call3_call0_v0 : Ref sig .tc := ⟨.hbm, 240, rfl⟩
abbrev main_v109 : Ref sig .tc := ⟨.hbm, 241, rfl⟩
abbrev main_c_11 : Ref sig .tc := ⟨.hbm, 242, rfl⟩
abbrev main_v110 : Ref sig .tc := ⟨.hbm, 243, rfl⟩
abbrev main_v111 : Ref sig .tc := ⟨.hbm, 244, rfl⟩
abbrev main_c_12 : Ref sig .tc := ⟨.hbm, 245, rfl⟩
abbrev main_v112 : Ref sig .tc := ⟨.hbm, 246, rfl⟩
abbrev main_v113 : Ref sig .tc := ⟨.hbm, 247, rfl⟩
abbrev main_c_13 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_c_14 : Ref sig .tc := ⟨.hbm, 252, rfl⟩
abbrev main_v117 : Ref sig .tc := ⟨.hbm, 253, rfl⟩
abbrev main_v118 : Ref sig .tc := ⟨.hbm, 254, rfl⟩
abbrev main_c_15 : Ref sig .tc := ⟨.hbm, 255, rfl⟩
abbrev main_v119 : Ref sig .tc := ⟨.hbm, 256, rfl⟩
abbrev main_v120 : Ref sig .tc := ⟨.hbm, 257, rfl⟩
abbrev main_v121 : Ref sig .tc := ⟨.hbm, 258, rfl⟩
abbrev main_c_16 : Ref sig .tc := ⟨.hbm, 259, rfl⟩
abbrev main_v122 : Ref sig .tc := ⟨.hbm, 260, rfl⟩
abbrev main_v123 : Ref sig .tc := ⟨.hbm, 261, rfl⟩
abbrev main_c_17 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_c_18 : Ref sig .tc := ⟨.hbm, 270, rfl⟩
abbrev main_v131 : Ref sig .tc := ⟨.hbm, 271, rfl⟩
abbrev main_v132 : Ref sig .tc := ⟨.hbm, 272, rfl⟩
abbrev main_call4_call0_c : Ref sig .tc := ⟨.hbm, 273, rfl⟩
abbrev main_call4_call0_v0 : Ref sig .tc := ⟨.hbm, 274, rfl⟩
abbrev main_v133 : Ref sig .tc := ⟨.hbm, 275, rfl⟩
abbrev main_c_19 : Ref sig .tc := ⟨.hbm, 276, rfl⟩
abbrev main_call5_v0 : Ref sig .tc := ⟨.hbm, 277, rfl⟩
abbrev main_call5_v1 : Ref sig .tc := ⟨.hbm, 278, rfl⟩
abbrev main_call5_v2 : Ref sig .tc := ⟨.hbm, 279, rfl⟩
abbrev main_call5_v3 : Ref sig .tc := ⟨.hbm, 280, rfl⟩
abbrev main_call5_v4 : Ref sig .tc := ⟨.hbm, 281, rfl⟩
abbrev main_call5_v5 : Ref sig .tc := ⟨.hbm, 282, rfl⟩
abbrev main_call5_v6 : Ref sig .tc := ⟨.hbm, 283, rfl⟩
abbrev main_call5_v7 : Ref sig .tc := ⟨.hbm, 284, rfl⟩
abbrev main_call5_v8 : Ref sig .tc := ⟨.hbm, 285, rfl⟩
abbrev main_call5_c : Ref sig .tc := ⟨.hbm, 286, rfl⟩
abbrev main_call5_v9 : Ref sig .tc := ⟨.hbm, 287, rfl⟩
abbrev main_call5_v10 : Ref sig .tc := ⟨.hbm, 288, rfl⟩
abbrev main_call5_v11 : Ref sig .tc := ⟨.hbm, 289, rfl⟩
abbrev main_call5_c_0 : Ref sig .tc := ⟨.hbm, 290, rfl⟩
abbrev main_call5_v12 : Ref sig .tc := ⟨.hbm, 291, rfl⟩
abbrev main_call5_v13 : Ref sig .tc := ⟨.hbm, 292, rfl⟩
abbrev main_v134 : Ref sig .tc := ⟨.hbm, 293, rfl⟩
abbrev main_c_20 : Ref sig .tc := ⟨.hbm, 294, rfl⟩
abbrev main_call6_v0 : Ref sig .tc := ⟨.hbm, 295, rfl⟩
abbrev main_call6_c : Ref sig .tc := ⟨.hbm, 296, rfl⟩
abbrev main_call6_v1 : Ref sig .tc := ⟨.hbm, 297, rfl⟩
abbrev main_call6_c_0 : Ref sig .tc := ⟨.hbm, 298, rfl⟩
abbrev main_call6_v2 : Ref sig .tc := ⟨.hbm, 299, rfl⟩
abbrev main_call6_v3 : Ref sig .tc := ⟨.hbm, 300, rfl⟩
abbrev main_call6_v4 : Ref sig .tc := ⟨.hbm, 301, rfl⟩
abbrev main_call6_c_1 : Ref sig .tc := ⟨.hbm, 302, rfl⟩
abbrev main_call6_v5 : Ref sig .tc := ⟨.hbm, 303, rfl⟩
abbrev main_call6_v6 : Ref sig .tc := ⟨.hbm, 304, rfl⟩
abbrev main_call6_c_2 : Ref sig .tc := ⟨.hbm, 305, rfl⟩
abbrev main_call6_v7 : Ref sig .tc := ⟨.hbm, 306, rfl⟩
abbrev main_call6_v8 : Ref sig .tc := ⟨.hbm, 307, rfl⟩
abbrev main_call6_c_3 : Ref sig .tc := ⟨.hbm, 308, rfl⟩
abbrev main_call6_v9 : Ref sig .tc := ⟨.hbm, 309, rfl⟩
abbrev main_call6_v10 : Ref sig .tc := ⟨.hbm, 310, rfl⟩
abbrev main_call6_v11 : Ref sig .tc := ⟨.hbm, 311, rfl⟩
abbrev main_call6_v12 : Ref sig .tc := ⟨.hbm, 312, rfl⟩
abbrev main_call6_v13 : Ref sig .tc := ⟨.hbm, 313, rfl⟩
abbrev main_call6_v14 : Ref sig .tc := ⟨.hbm, 314, rfl⟩
abbrev main_v135 : Ref sig .tc := ⟨.hbm, 315, rfl⟩
abbrev main_v136 : Ref sig .tc := ⟨.hbm, 316, rfl⟩
abbrev main_c_21 : Ref sig .tc := ⟨.hbm, 317, rfl⟩
abbrev main_v137 : Ref sig .tc := ⟨.hbm, 318, rfl⟩
abbrev main_v138 : Ref sig .tc := ⟨.hbm, 319, rfl⟩
abbrev main_v139 : Ref sig .tc := ⟨.hbm, 320, rfl⟩
abbrev main_v140 : Ref sig .tc := ⟨.hbm, 321, rfl⟩
abbrev main_v141 : Ref sig .tc := ⟨.hbm, 322, rfl⟩
abbrev main_v142 : Ref sig .tc := ⟨.hbm, 323, rfl⟩
abbrev main_v143 : Ref sig .tc := ⟨.hbm, 324, rfl⟩
abbrev main_c_22 : Ref sig .tc := ⟨.hbm, 325, rfl⟩
abbrev main_v144 : Ref sig .tc := ⟨.hbm, 326, rfl⟩
abbrev main_call7_v0 : Ref sig .tc := ⟨.hbm, 327, rfl⟩
abbrev main_v145 : Ref sig .tc := ⟨.hbm, 328, rfl⟩
abbrev main_c_23 : Ref sig .tc := ⟨.hbm, 329, rfl⟩
abbrev main_v146 : Ref sig .tc := ⟨.hbm, 330, rfl⟩
abbrev main_v147 : Ref sig .tc := ⟨.hbm, 331, rfl⟩
abbrev main_v148 : Ref sig .tc := ⟨.hbm, 332, rfl⟩
abbrev main_v149 : Ref sig .tc := ⟨.hbm, 333, rfl⟩
abbrev main_c_24 : Ref sig .tc := ⟨.hbm, 334, rfl⟩
abbrev main_c_25 : Ref sig .tc := ⟨.hbm, 335, rfl⟩
abbrev main_call8_v0 : Ref sig .tc := ⟨.hbm, 336, rfl⟩
abbrev main_call8_v1 : Ref sig .tc := ⟨.hbm, 337, rfl⟩
abbrev main_call8_v2 : Ref sig .tc := ⟨.hbm, 338, rfl⟩
abbrev main_call8_v3 : Ref sig .tc := ⟨.hbm, 339, rfl⟩
abbrev main_call8_v4 : Ref sig .tc := ⟨.hbm, 340, rfl⟩
abbrev main_v150 : Ref sig .tc := ⟨.hbm, 341, rfl⟩
abbrev main_call9_c : Ref sig .tc := ⟨.hbm, 342, rfl⟩
abbrev main_call9_v0 : Ref sig .tc := ⟨.hbm, 343, rfl⟩
abbrev main_call9_v1 : Ref sig .tc := ⟨.hbm, 344, rfl⟩
abbrev main_call9_c_0 : Ref sig .tc := ⟨.hbm, 345, rfl⟩
abbrev main_call9_v2 : Ref sig .tc := ⟨.hbm, 346, rfl⟩
abbrev main_call9_v3 : Ref sig .tc := ⟨.hbm, 347, rfl⟩
abbrev main_call9_v4 : Ref sig .tc := ⟨.hbm, 348, rfl⟩
abbrev main_call9_v5 : Ref sig .tc := ⟨.hbm, 349, rfl⟩
abbrev main_call9_c_1 : Ref sig .tc := ⟨.hbm, 350, rfl⟩
abbrev main_call9_c_2 : Ref sig .tc := ⟨.hbm, 351, rfl⟩
abbrev main_call9_v6 : Ref sig .tc := ⟨.hbm, 352, rfl⟩
abbrev main_call9_v7 : Ref sig .tc := ⟨.hbm, 353, rfl⟩
abbrev main_call9_v8 : Ref sig .tc := ⟨.hbm, 354, rfl⟩
abbrev main_call9_v9 : Ref sig .tc := ⟨.hbm, 355, rfl⟩
abbrev main_call9_v10 : Ref sig .tc := ⟨.hbm, 356, rfl⟩
abbrev main_call9_v11 : Ref sig .tc := ⟨.hbm, 357, rfl⟩
abbrev main_call9_c_3 : Ref sig .tc := ⟨.hbm, 358, rfl⟩
abbrev main_call9_v12 : Ref sig .tc := ⟨.hbm, 359, rfl⟩
abbrev main_call9_v13 : Ref sig .tc := ⟨.hbm, 360, rfl⟩
abbrev main_call9_v14 : Ref sig .tc := ⟨.hbm, 361, rfl⟩
abbrev main_call9_cst : Ref sig .tc := ⟨.hbm, 362, rfl⟩
abbrev main_call9_v15 : Ref sig .tc := ⟨.hbm, 363, rfl⟩
abbrev main_v151 : Ref sig .tc := ⟨.hbm, 364, rfl⟩
abbrev main_v152 : Ref sig .tc := ⟨.hbm, 365, rfl⟩
abbrev main_v153 : Ref sig .tc := ⟨.hbm, 366, rfl⟩

abbrev nD : Nat := 1
abbrev τ : Topo := Topo.v7x

variable {F : FTy → Type} [FloatOps F]

abbrev main_while0_count : Scf.Loop 32 := ⟨0#32, 6000#32, 1#32⟩
-- ==== Proof.KernelIdealRun.lean ====
/-
  The region of `KernelIdeal` by hand: what the kernel body leaves in its two output windows as a function of its two
  input blocks, the counted suppression loop as one fold over its trips, and the run of @main with what every unscoped
  buffer holds at the end.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The suppression loop as a fold -/

/-- One trip of the suppression loop: the kept lanes after the trip from the kept lanes before it, at the four box
    rows `y1 x1 y2 x2` and their areas. -/
def trip (y1 x1 y2 x2 area : FVec F S1x6144 .f32) (ids : IVec S1x6144 32) (k : Fin k0_t1_loop.trips)
    (acc : FVec F S1x6144 .f32) : FVec F S1x6144 .f32 :=
  k0_pay6 acc (Scf.iv 0#32 1#32 k) (k0_pay9 ids 0#32 1#32 k acc) (k0_pay10 y1 x1 y2 x2 ids 0#32 1#32 k)
    (k0_pay11 area ids 0#32 1#32 k)

/-- The loop's region issues nothing: it returns `trip`. -/
theorem body_eq_trip (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x4x6144 .f32)
    (harg3 : arg3.IsWhole) (arg4 : Memref sig .tc .vmem S1x1x6144 .f32) (harg4 : arg4.IsWhole)
    (v18 v23 v27 v34 v41 v43 : FVec F S1x6144 .f32) (v63 : IVec S1x6144 32) (k : Fin k0_t1_loop.trips)
    (acc : FVec F S1x6144 .f32) :
    k0_t1_body i arg1 harg1 arg2 harg2 arg3 harg3 arg4 harg4 v18 v23 v27 v34 v41 v43 v63 k acc
      = .ret (trip v34 v41 (k0_pay1 v18 v43) (k0_pay2 v23 v27) (k0_pay3 v18 v23 v27 v34 v41 v43) v63 k acc) := by
  unfold k0_t1_body trip
  rw [k0_part1_eq_skeleton]
  rfl

/-- So the loop returns the fold of `trip` over its trips. -/
theorem loop_eq_fold (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x4x6144 .f32)
    (harg3 : arg3.IsWhole) (arg4 : Memref sig .tc .vmem S1x1x6144 .f32) (harg4 : arg4.IsWhole)
    (v18 v23 v27 v34 v41 v43 : FVec F S1x6144 .f32) (v63 : IVec S1x6144 32) (init : FVec F S1x6144 .f32) :
    Scf.Loop.for k0_t1_loop k0_t1_ok init
        (k0_t1_body i arg1 harg1 arg2 harg2 arg3 harg3 arg4 harg4 v18 v23 v27 v34 v41 v43 v63)
      = .ret (Scf.fold (trip v34 v41 (k0_pay1 v18 v43) (k0_pay2 v23 v27) (k0_pay3 v18 v23 v27 v34 v41 v43) v63) init) :=
  Scf.for_pure _ _ _ _ _ _ _ fun k acc =>
    body_eq_trip i arg1 harg1 arg2 harg2 arg3 harg3 arg4 harg4 v18 v23 v27 v34 v41 v43 v63 k acc

/-! ## What the body leaves in each output window -/

/-- The rectangle of a whole input or box block, -/
abbrev rBox : Rect S1x4x6144 := Rect.unit (s := S1x4x6144) ![0, 0, 0] S1x4x6144.size inb_S1x4x6144_S1x4x6144_0_0_0
/-- and of a whole block of kept lanes. -/
abbrev rKeep : Rect S1x1x6144 := Rect.unit (s := S1x1x6144) ![0, 0, 0] S1x1x6144.size inb_S1x1x6144_S1x1x6144_0_0_0

/-- The box block the body stores, from the anchor block `a` and the delta block `d` as loaded. -/
def boxPay (a d : Vec F S1x4x6144 .f32) : FVec F S1x4x6144 .f32 :=
  k0_pay4 (k0_pay18 a d) (k0_pay19 a d) (k0_pay21 a d) (k0_pay22 a d) (k0_pay23 a d) (k0_pay24 a d)

/-- The kept lanes after all trips. -/
def keepFold (a d : Vec F S1x4x6144 .f32) : FVec F S1x6144 .f32 :=
  Scf.fold (trip (k0_pay22 a d) (k0_pay23 a d) (k0_pay1 (k0_pay18 a d) (k0_pay24 a d))
    (k0_pay2 (k0_pay19 a d) (k0_pay21 a d))
    (k0_pay3 (k0_pay18 a d) (k0_pay19 a d) (k0_pay21 a d) (k0_pay22 a d) (k0_pay23 a d) (k0_pay24 a d))
    (iota .tc S1x6144 32 [1] iota_S1x6144_d1_w32)) k0_pay5

/-- The kept-lanes block the body stores. -/
def keepPay (a d : Vec F S1x4x6144 .f32) : FVec F S1x1x6144 .f32 := k0_pay7 (keepFold a d)

/-- The box window's buffer after the body, -/
def outBox (x0 x1 : Vec F S1x4x6144 .f32) : Vec F S1x4x6144 .f32 :=
  View.canon [⟨rBox, boxPay (View.ld x0 rBox) (View.ld x1 rBox)⟩]
/-- and the kept-lanes window's. -/
def outKeep (x0 x1 : Vec F S1x4x6144 .f32) : Vec F S1x1x6144 .f32 :=
  View.canon [⟨rKeep, keepPay (View.ld x0 rBox) (View.ld x1 rBox)⟩]

/-- The one store of each window covers its buffer. -/
theorem coverBox (p : Vec F S1x4x6144 .f32) (y : S1x4x6144.Idx) :
    ∃ pc ∈ ([⟨rBox, p⟩] : List (View.Piece (Elt F) S1x4x6144 .f32)), y ∈ pc.1.set :=
  View.cover_of_tiled [⟨rBox, p⟩] S1x4x6144.size (by rfl) y
theorem coverKeep (p : Vec F S1x1x6144 .f32) (y : S1x1x6144.Idx) :
    ∃ pc ∈ ([⟨rKeep, p⟩] : List (View.Piece (Elt F) S1x1x6144 .f32)), y ∈ pc.1.set :=
  View.cover_of_tiled [⟨rKeep, p⟩] S1x1x6144.size (by rfl) y

/-! ## The body's triple -/

set_option maxHeartbeats 4000000 in
/-- On whole staging buffers, the inputs' at `x0` and `x1` and the outputs' at anything, the body runs to its end
    leaving the inputs as they were and the outputs at `outBox` and `outKeep` of the inputs. -/
theorem sound_kernel (c : Dev nD) (E : Set ℕ) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x4x6144 .f32)
    (harg3 : arg3.IsWhole) (arg4 : Memref sig .tc .vmem S1x1x6144 .f32) (harg4 : arg4.IsWhole)
    (x0 x1 : Vec F S1x4x6144 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outBox x0 x1) ∗ owns (c : Thread nD τ) arg4 fullShare (outKeep x0 x1)) -∗ K ⟨⟩))
      ⊢ wp frame (wpE (defs₀ (F := F)) Variants.none c none) E
          (cc0__refine_nms_kernel i arg1 harg1 arg2 harg2 arg3 harg3 arg4 harg4) K := by
  simp only [cc0__refine_nms_kernel_eq_skeleton]; unfold cc0__refine_nms_kernel_skel
  simp only [k0_part2_eq_skeleton, loop_eq_fold]
  unfold k0_part2_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverBox _)).trans ?_
    rfl
  iexists _; isplitr
  swap; · iexact H3
  ipureintro
  refine (View.read_writes_eq_canon _ _ _ (coverKeep _)).trans ?_
  rfl

/-! ## The pipeline's proof data -/

variable (m : (ℓ : Loc nD τ sig) → Buf (Elt F) ℓ) (ρ : Dev nD → PrngReg)

/-- The arrays as the region finds them; after the body at point `t` each input's buffer at its block and each
    output's at what the body leaves of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBox (iblk m c 0 t) (iblk m c 1 t)
    | ⟨3, _⟩ => outKeep (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBox (iblk m c 0 t) (iblk m c 1 t) := by
  dsimp only [dats]
theorem after_3 (c : Dev nD) (t : Fin cfg0.N) : (dats m 0 c).after 3 t = outKeep (iblk m c 0 t) (iblk m c 1 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`. -/
theorem defs₀_row (t : Fin cfg0.N) : defs₀ (F := F) .tc cfg0.body (cfg0.bodyArgs t (cfg0.slots t)) = bodyAt0 t := by
  unfold defs₀; rw [Defs.onTc_tc]

/-- The obligation of the pipeline, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The host lines after the region. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13]

set_option backward.isDefEq.respectTransparency.types false in
set_option maxHeartbeats 4000000 in
/-- From any memory with zero counters every weakly fair execution of @main terminates, with the pipeline's arrays at
    what the proof data compute, every other unscoped buffer at the later lines' contents, and every counter at zero. -/
theorem run_main : θ_run defs (onTc (τ := τ) (main (F := F))) (s₀ m ρ)
    (fun r => Pipeline.FramePost cfgs (dats m) 0 (Pipeline.afterTail₀ cfgs (dats m) 0 (V0 m) tailOps) r ∧ r.2.sem = fun _ => 0) :=
  Pipeline.θ_run_frame_around (Q' := _) cfgs (dats m) (0 : Fin 1) launch0 defs₀ Variants.none m ρ main
    (hbody := fun c => (body_obligation m c).loose) (hshare := fun c w => by unfold Dat.share; split <;> rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main terminates with its three arguments unchanged and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.KernelIdeal.Own

end
-- ==== Proof.Rows.lean ====
/-
  Host operations on a batch of two rows, read at an element: the running sum of each row, the histogram a scatter-add builds
  in each row, the gather of whole entries of each row, and the positions a top-k returns.
-/
module

public import Idealize.ShloMosaic.Lib.Routing.Ops
public import Idealize.ShloMosaic.Lib.Routing.OpsPair
public import Idealize.ShloMosaic.Lib.Routing.Count

@[expose] public section

namespace Cert.Rows

open Idealize.ShloMosaic Idealize.ShloMosaic.ValueIdx Idealize.ShloMosaic.Routing

/-! ## Running sums -/

/-- The running sum of a batch of rows, read in row `b`, is the running sum of that row alone. -/
theorem window_row {R N Nm1 : Nat} (hN : Nm1 + 1 = N) (x : IVec (shape2 R N) 32) (init : IVec shape0 32)
    (h : (shape2 R N).ReduceWindows (![1, N] : Fin 2 → Nat) ![1, 1] ![0, Nm1] ![0, 0] (shape2 R N))
    (h' : (shape2 1 N).ReduceWindows (![1, N] : Fin 2 → Nat) ![1, 1] ![0, Nm1] ![0, 0] (shape2 1 N))
    (hu : 0 < shape0.numel) (b : Fin R) (j : Fin N) :
    Host.reduceWindow IntOp.addi ![1, N] ![1, 1] ![0, Nm1] ![0, 0] x init h hu (ix2 b j)
      = Host.reduceWindow IntOp.addi ![1, N] ![1, 1] ![0, Nm1] ![0, 0] (fun i : (shape2 1 N).Idx => x (ix2 b (i 1))) init h' hu
          (ix2 (0 : Fin 1) j) := by
  unfold Host.reduceWindow
  dsimp only
  refine congrArg (fun F => List.foldl F (init (Shape.Idx.first hu)) (List.finRange (shape2 1 N).numel)) (funext fun r => funext fun n => ?_)
  have hw0 : ((shape2 1 N).rowMajor.symm n 0).val = 0 := by rw [symm2]; rfl
  have hb := b.isLt
  refine congrArg (IntOp.addi r) ?_
  by_cases hc : Nm1 ≤ j.val * 1 + ((shape2 1 N).rowMajor.symm n 1).val
      ∧ j.val * 1 + ((shape2 1 N).rowMajor.symm n 1).val - Nm1 < N
  · have h1 : ∀ a : Fin 2, (![0, Nm1] : Fin 2 → Nat) a ≤ (ix2 b j a).val * (![1, 1] : Fin 2 → Nat) a + ((shape2 1 N).rowMajor.symm n a).val
        ∧ (ix2 b j a).val * (![1, 1] : Fin 2 → Nat) a + ((shape2 1 N).rowMajor.symm n a).val - (![0, Nm1] : Fin 2 → Nat) a
          < (shape2 R N).size a := fun a => by
      match a with
      | ⟨0, _⟩ =>
        show 0 ≤ b.val * 1 + ((shape2 1 N).rowMajor.symm n 0).val ∧ b.val * 1 + ((shape2 1 N).rowMajor.symm n 0).val - 0 < R
        rw [hw0]
        omega
      | ⟨1, _⟩ => exact hc
    have h2 : ∀ a : Fin 2, (![0, Nm1] : Fin 2 → Nat) a
          ≤ (ix2 (0 : Fin 1) j a).val * (![1, 1] : Fin 2 → Nat) a + ((shape2 1 N).rowMajor.symm n a).val
        ∧ (ix2 (0 : Fin 1) j a).val * (![1, 1] : Fin 2 → Nat) a + ((shape2 1 N).rowMajor.symm n a).val - (![0, Nm1] : Fin 2 → Nat) a
          < (shape2 1 N).size a := fun a => by
      match a with
      | ⟨0, _⟩ =>
        show 0 ≤ 0 * 1 + ((shape2 1 N).rowMajor.symm n 0).val ∧ 0 * 1 + ((shape2 1 N).rowMajor.symm n 0).val - 0 < 1
        rw [hw0]
        omega
      | ⟨1, _⟩ => exact hc
    refine (dif_pos h1).trans (Eq.trans ?_ (dif_pos h2).symm)
    refine congrArg x (funext fun a => Fin.ext ?_)
    match a with
    | ⟨0, _⟩ =>
      show b.val * 1 + ((shape2 1 N).rowMajor.symm n 0).val - 0 = b.val
      rw [hw0]
      omega
    | ⟨1, _⟩ => rfl
  · split
    · next hh => exact absurd (hh 1) hc
    · split
      · next hh => exact absurd (hh 1) hc
      · rfl

/-- The running sum of a batch of rows whose entries are the words of naturals: entry `(b, j)` is the word of the sum
    of row `b`'s first `j + 1` naturals. -/
theorem cumsum_rows {R N Nm1 : Nat} (hN : Nm1 + 1 = N) (x : IVec (shape2 R N) 32) (f : Nat → Nat) (b : Fin R)
    (hx : ∀ i : Fin N, x (ix2 b i) = BitVec.ofNat 32 (f i.val)) (init : IVec shape0 32) (hinit : init ix0 = 0#32)
    (h : (shape2 R N).ReduceWindows (![1, N] : Fin 2 → Nat) ![1, 1] ![0, Nm1] ![0, 0] (shape2 R N)) (hu : 0 < shape0.numel) (j : Fin N) :
    Host.reduceWindow IntOp.addi ![1, N] ![1, 1] ![0, Nm1] ![0, 0] x init h hu (ix2 b j)
      = BitVec.ofNat 32 ((List.range (j.val + 1)).map f).sum := by
  have h' : (shape2 1 N).ReduceWindows (![1, N] : Fin 2 → Nat) ![1, 1] ![0, Nm1] ![0, 0] (shape2 1 N) :=
    ⟨rfl, fun a => match a with
      | ⟨0, _⟩ => ⟨Nat.one_pos, (by show 1 ≤ 0 + 1 + 0; omega), (by show 1 = (0 + 1 + 0 - 1) / 1 + 1; omega)⟩
      | ⟨1, _⟩ => ⟨Nat.one_pos, (by show N ≤ Nm1 + N + 0; omega), (by show N = (Nm1 + N + 0 - N) / 1 + 1; omega)⟩⟩
  rw [window_row hN x init h h' hu b j]
  exact cumsum2 hN _ f hx init hinit h' hu j

/-! ## Histograms -/

/-- A fold that adds one at the members satisfying `p` counts them. -/
theorem foldl_ones {ι : Type} (p : ι → Prop) [DecidablePred p] (l : List ι) (z : Nat) :
    l.foldl (fun a k => if p k then IntOp.addi a 1#32 else a) (BitVec.ofNat 32 z) = BitVec.ofNat 32 (z + l.countP fun k => decide (p k)) := by
  induction l generalizing z with
  | nil => rfl
  | cons k l ih =>
    rw [List.foldl_cons, List.countP_cons]
    by_cases hk : p k
    · rw [if_pos hk, show IntOp.addi (BitVec.ofNat 32 z) 1#32 = BitVec.ofNat 32 (z + 1) from (BitVec.ofNat_add ..).symm, ih,
        if_pos (decide_eq_true hk)]
      exact congrArg _ (by omega)
    · rw [if_neg hk, ih, if_neg (by simpa using hk)]
      rfl

/-- Of the `2 * n` row-major positions of two rows, those in row `r` with a property of the column are as many as the
    columns with it. -/
theorem count_two_rows (n r : Nat) (hr : r < 2) (q : Nat → Prop) [DecidablePred q] :
    Nat.count (fun k => k / n = r ∧ q (k % n)) (2 * n) = Nat.count q n := by
  rcases Nat.eq_zero_or_pos n with h0 | h0
  · subst h0; rfl
  rw [show 2 * n = n + n by omega, Nat.count_add]
  have e1 : ∀ k, k < n → ((k / n = r ∧ q (k % n)) ↔ (r = 0 ∧ q k)) := fun k hk => by
    rw [Nat.div_eq_of_lt hk, Nat.mod_eq_of_lt hk]
    exact and_congr_left fun _ => eq_comm
  have e2 : ∀ k, k < n → (((n + k) / n = r ∧ q ((n + k) % n)) ↔ (r = 1 ∧ q k)) := fun k hk => by
    rw [Nat.add_div_left k h0, Nat.div_eq_of_lt hk, Nat.add_mod_left, Nat.mod_eq_of_lt hk]
    exact and_congr_left fun _ => eq_comm
  rw [count_congr_of_lt n e1, count_congr_of_lt n e2]
  rcases (by omega : r = 0 ∨ r = 1) with h | h
  · subst h
    simp [Nat.count_false]
  · subst h
    simp [Nat.count_false]

/-- A scatter-add of ones into two rows of `C` zeros, the update at `(a, j)` going to row `a`, column `g a j`: entry
    `(r, c)` counts the updates of row `r` whose column is `c`. -/
theorem hist_rows {C n : Nat} (d : ScatterDims (shape2 2 C) (shape3 2 n 2) (shape2 2 n)) (hiw : d.insertedWindowDims = [0, 1])
    (hsd : d.scatterDimsToOperandDims = [0, 1]) (hivd : d.indexVectorDim = 2) (x0 : IVec (shape2 2 C) 32) (hx0 : ∀ i, x0 i = 0#32)
    (idx : IVec (shape3 2 n 2) 32) (upd : IVec (shape2 2 n) 32) (hupd : ∀ i, upd i = 1#32) (g : Nat → Nat → Nat)
    (hrow : ∀ (a : Fin 2) (j : Fin n), idx (ix3 a j (0 : Fin 2)) = BitVec.ofNat 32 a.val)
    (hcol : ∀ (a : Fin 2) (j : Fin n), idx (ix3 a j (1 : Fin 2)) = BitVec.ofNat 32 (g a.val j.val))
    (hg : ∀ (a : Fin 2) (j : Fin n), g a.val j.val < 2 ^ 31) (r : Fin 2) (c : Fin C) :
    Host.scatter d IntOp.addi x0 idx upd (ix2 r c) = BitVec.ofNat 32 (Nat.count (fun j => g r.val j = c.val) n) := by
  have hnum : (shape2 2 n).numel = 2 * n := by
    simp [Shape.numel, Fin.prod_univ_two]
  have hlt : ∀ k : Fin (shape2 2 n).numel, k.val / n < 2 ∧ k.val % n < n := fun k => by
    have hk : k.val < 2 * n := lt_of_lt_of_eq k.isLt hnum
    have h0 : 0 < n := by omega
    exact ⟨Nat.div_lt_of_lt_mul (by omega), Nat.mod_lt _ h0⟩
  have hit : ∀ k : Fin (shape2 2 n).numel, d.resultIdx? ((shape2 2 n).rowMajor.symm k) idx = some (ix2 r c)
      ↔ (k.val / n = r.val ∧ g r.val (k.val % n) = c.val) := fun k => by
    rw [symm22 k (hlt k).1 (hlt k).2, scatter_lands2 d hiw hsd hivd, hrow, hcol,
      StableHlo.Predicate.toInt_ofNat_small _ (by have := (hlt k).1; omega),
      StableHlo.Predicate.toInt_ofNat_small _ (hg _ _)]
    constructor
    · rintro ⟨h1, h2⟩
      have h1' : k.val / n = r.val := by exact_mod_cast h1
      refine ⟨h1', ?_⟩
      have h2' : g (k.val / n) (k.val % n) = c.val := by exact_mod_cast h2
      rwa [h1'] at h2'
    · rintro ⟨h1, h2⟩
      refine ⟨by exact_mod_cast h1, ?_⟩
      show ((g (k.val / n) (k.val % n) : Nat) : Int) = _
      rw [h1, h2]
  rw [scatter_at, hx0]
  have e : (fun (a : BitVec 32) (k : Fin (shape2 2 n).numel) =>
        if d.resultIdx? ((shape2 2 n).rowMajor.symm k) idx = some (ix2 r c) then IntOp.addi a (upd ((shape2 2 n).rowMajor.symm k)) else a)
      = fun a k => if k.val / n = r.val ∧ g r.val (k.val % n) = c.val then IntOp.addi a 1#32 else a := by
    funext a k
    rw [hupd]
    exact if_congr (hit k) rfl rfl
  rw [e]
  refine (foldl_ones _ _ 0).trans (congrArg (BitVec.ofNat 32) ?_)
  rw [Nat.zero_add, countP_finRange _ (fun k => k / n = r.val ∧ g r.val (k % n) = c.val), hnum]
  exact count_two_rows n r.val r.isLt (fun j => g r.val j = c.val)

/-! ## Gathers -/

theorem one_notin : (1 : Fin 3) ∉ ([0] : List (Fin 3)) := by decide
theorem two_notin0 : (2 : Fin 3) ∉ ([0] : List (Fin 3)) := by decide
theorem two_notin1 : (2 : Fin 3) ∉ ([1] : List (Fin 3)) := by decide

/-- A gather of whole entries, one index word for each result row of each batch: where the word at `(b, r)` is that of a
    row number `k` of the table, the result's `(b, r, c)` is the table's `(b, k, c)`. -/
theorem gather_rows {α : Type} {B N R C : Nat} (d : GatherDims (shape3 B N C) (shape3 B R 1) (shape3 B R C)) (hoff : d.offsetDims = [2])
    (hcoll : d.collapsedSliceDims = [1]) (hob : d.operandBatchingDims = [0]) (hsb : d.startIndicesBatchingDims = [0])
    (hsim : d.startIndexMap = [1]) (hivd : d.indexVectorDim = 2) (x : (shape3 B N C).Idx → α) (idx : IVec (shape3 B R 1) 32)
    (b : Fin B) (r : Fin R) (c : Fin C) (k : Fin N) (hk : idx (ix3 b r (0 : Fin 1)) = BitVec.ofNat 32 k.val) (hN : N < 2 ^ 31) :
    Host.gather d x idx (ix3 b r c) = x (ix3 b k c) := by
  have hsl : d.sliceSizes 1 = 1 := d.slice_collapsed 1 (by rw [hcoll]; exact List.mem_singleton.2 rfl)
  obtain ⟨od, cs, ob, sb, sim, ivd, ss, wf⟩ := d
  dsimp only at hoff hcoll hob hsb hsim hivd hsl
  subst hoff hcoll hob hsb hsim hivd
  unfold Host.gather
  refine congrArg x (funext fun a => Fin.ext ?_)
  match a with
  | ⟨0, _⟩ =>
    unfold GatherDims.operandIdx
    show GatherDims.start _ (ix3 b r c) idx 0 + GatherDims.batchCoord _ (ix3 b r c) 0 + GatherDims.offCoord _ (ix3 b r c) 0 = b.val
    rw [GatherDims.start_batching _ _ _ _ (List.mem_singleton.2 rfl), GatherDims.offCoord_eq_zero _ _ _ (by
      rw [GatherDims.mem_sKept]; exact fun h => h.2 (List.mem_singleton.2 rfl))]
    unfold GatherDims.batchCoord
    rw [dif_pos (List.mem_singleton.2 rfl)]
    rw [Nat.zero_add, Nat.add_zero]
    rfl
  | ⟨1, _⟩ =>
    show GatherDims.start _ (ix3 b r c) idx 1 + GatherDims.batchCoord _ (ix3 b r c) 1 + GatherDims.offCoord _ (ix3 b r c) 1 = k.val
    rw [GatherDims.batchCoord_eq_zero _ _ _ (by exact one_notin), GatherDims.offCoord_eq_zero _ _ _ (by
      rw [GatherDims.mem_sKept]; exact fun h => h.1 (List.mem_singleton.2 rfl))]
    unfold GatherDims.start
    rw [dif_pos (List.mem_singleton.2 rfl)]
    have hsi : ∀ (w : _), GatherDims.siIdx (⟨[2], [1], [0], [0], [1], 2, ss, wf⟩ : GatherDims (shape3 B N C) (shape3 B R 1) (shape3 B R C))
        (ix3 b r c) w = ix3 b r (0 : Fin 1) := fun w => by
      funext b'
      apply Fin.ext
      match b' with
      | ⟨0, _⟩ => rfl
      | ⟨1, _⟩ => rfl
      | ⟨2, _⟩ =>
        have := w.isLt
        have h1 : w.val < 1 := this
        show w.val = 0
        omega
    rw [hsi, hk, StableHlo.Predicate.toInt_ofNat_small _ (by have := k.isLt; omega)]
    show min ((k.val : Int)).toNat (N - ss 1) + 0 + 0 = k.val
    have := k.isLt
    rw [hsl]
    omega
  | ⟨2, _⟩ =>
    show GatherDims.start _ (ix3 b r c) idx 2 + GatherDims.batchCoord _ (ix3 b r c) 2 + GatherDims.offCoord _ (ix3 b r c) 2 = c.val
    rw [GatherDims.batchCoord_eq_zero _ _ _ (by exact two_notin0)]
    unfold GatherDims.start
    rw [dif_neg (by exact two_notin1)]
    unfold GatherDims.offCoord
    rw [dif_pos (by rw [GatherDims.mem_sKept]; exact ⟨two_notin1, two_notin0⟩)]
    rw [Nat.zero_add]
    rfl

/-! ## Top-k -/

/-- A position a top-k along the second of two axes returns is that of an element of the row. -/
theorem topK_position {α : Type} {R N K : Nat} (gt : α → α → BitVec 1) (x : (shape2 R N).Idx → α)
    (h : (shape2 R N).Slices (fun _ => 0) (shape2 R K)) (b : Fin R) (j : Fin K) :
    ∃ k : Fin N, (Host.topK (shape2 R K) 1 gt x h).2 (ix2 b j) = BitVec.ofNat 32 k.val := by
  unfold Host.topK Host.sort2
  simp only [show (1 : Nat) < (shape2 R N).rank from Nat.one_lt_two, dite_true]
  exact ⟨_, rfl⟩

end Cert.Rows
-- ==== Proof.Take.lean ====
/-
  Taking whole entries of a batch of two tables by index words, as `jnp.take` and `jnp.take_along_axis` lower: a negative word
  counts from the end, and a word out of range reads a not-a-number. Where every word is in range the entry taken is the
  table's.
-/
module

public import proofs.«01_k».proof.Proof.Rows
public import Idealize.ShloMosaic.Lib.Routing.Words
public import Idealize.ShloMosaic.Lib.Routing.OpsSearch
public import Idealize.ShloMosaic.Lib.ReduceAll

@[expose] public section

noncomputable section

namespace Cert.Rows

open Idealize.ShloMosaic Idealize.ShloMosaic.ValueIdx Idealize.ShloMosaic.Routing Idealize.ShloMosaic.WordCmp

variable {F : FTy → Type} [FloatOps F]

/-- The side conditions of a take of `R` entries of four from a table of `N`, in each of two batches. -/
structure TakeFacts (N R : Nat) : Prop where
  bSi : shape0.BroadcastsInDim (shape3 2 R 1) (![] : Fin 0 → Fin 3)
  bLane : (shape2 2 R).BroadcastsInDim (shape3 2 R 1) (![0, 1] : Fin 2 → Fin 3)
  b1 : (shape1 1).BroadcastsInDim (shape3 1 1 1) (![2] : Fin 1 → Fin 3)
  b111 : (shape3 1 1 1).BroadcastsInDim (shape3 2 R 1) (![0, 1, 2] : Fin 3 → Fin 3)
  red : (shape3 2 R 1).ReducesTo [2] (shape2 2 R)
  hu : 0 < shape0.numel
  bOut : (shape2 2 R).BroadcastsInDim (shape3 2 R 4) (![0, 1] : Fin 2 → Fin 3)
  bNan : shape0.BroadcastsInDim (shape3 2 R 4) (![] : Fin 0 → Fin 3)
  wf : GatherDims.WF (shape3 2 N 4) (shape3 2 R 1) (shape3 2 R 4) [2] [1] [0] [1] [0] 2 ![1, 1, 4]

variable {N R : Nat} (f : TakeFacts N R)

/-- The dimension numbers of the take's gather. -/
def takeDims : GatherDims (shape3 2 N 4) (shape3 2 R 1) (shape3 2 R 4) where
  offsetDims := [2]
  collapsedSliceDims := [1]
  operandBatchingDims := [0]
  startIndicesBatchingDims := [0]
  startIndexMap := [1]
  indexVectorDim := 2
  sliceSizes := ![1, 1, 4]
  wf := f.wf

/-- Which result entries have their index word in range. -/
def inRange (last : BitVec 32) (i : IVec (shape3 2 R 1) 32) : IVec (shape2 2 R) 1 :=
  Host.reduce IntOp.andi
    (andi (cmpi .sge i (broadcastInDim (shape3 2 R 1) ![] f.bSi (constantI shape0 32 0#32)))
      (cmpi .sle i (broadcastInDim (shape3 2 R 1) ![0, 1, 2] f.b111 (broadcastInDim (shape3 1 1 1) ![2] f.b1 (constantI (shape1 1) 32 last)))))
    (constantI shape0 1 1#1) f.red f.hu

/-- The take, from index words already brought to non-negative ones. -/
def takeFrom (last : BitVec 32) (x : FVec F (shape3 2 N 4) .f32) (i : IVec (shape3 2 R 1) 32) : FVec F (shape3 2 R 4) .f32 :=
  select (broadcastInDim (shape3 2 R 4) ![0, 1] f.bOut (inRange f last i)) (Host.gather (takeDims f) x i)
    (broadcastInDim (shape3 2 R 4) ![] f.bNan (constant shape0 .f32 0x7FC00000#32))

/-- Where every index word is that of a row number, the take's `(b, r, c)` is the table's row of that number. -/
theorem takeFrom_apply (last : BitVec 32) (hlast : last = BitVec.ofNat 32 (N - 1)) (hN : N < 2 ^ 31) (x : FVec F (shape3 2 N 4) .f32)
    (i : IVec (shape3 2 R 1) 32) (k : Fin 2 → Fin R → Fin N) (hi : ∀ b r, i (ix3 b r (0 : Fin 1)) = BitVec.ofNat 32 (k b r).val)
    (b : Fin 2) (r : Fin R) (c : Fin 4) : takeFrom f last x i (ix3 b r c) = x (ix3 b (k b r) c) := by
  have hin : inRange f last i (ix2 b r) = 1#1 := by
    refine Host.reduce_andi_one _ _ _ _ _ rfl fun j => ?_
    obtain ⟨p, q, z, rfl⟩ : ∃ p q z, j = ix3 p q z := ⟨j 0, j 1, j 2, eq_ix3 j⟩
    obtain rfl : z = (0 : Fin 1) := Subsingleton.elim _ _
    have hk := (k p q).isLt
    have e1 : cmpi .sge i (broadcastInDim (shape3 2 R 1) ![] f.bSi (constantI shape0 32 0#32)) (ix3 p q 0) = 1#1 := by
      rw [cmpi_at, bc0, hi, constantI_at, WordCmp.cmpi_sge_zero, BitVec.toNat_ofNat, Nat.mod_eq_of_lt (by omega), decide_eq_true (by omega)]
      rfl
    have e2 : cmpi .sle i (broadcastInDim (shape3 2 R 1) ![0, 1, 2] f.b111 (broadcastInDim (shape3 1 1 1) ![2] f.b1 (constantI (shape1 1) 32 last)))
        (ix3 p q 0) = 1#1 := by
      rw [cmpi_at, hi]
      show IntOp.cmpi .sle _ last = 1#1
      rw [hlast, WordCmp.cmpi_sle_ofNat (w := 32) (by omega) (by omega), decide_eq_true (by omega)]
      rfl
    rw [andi_at, e1, e2]
    rfl
  unfold takeFrom
  rw [select_at]
  have hb : broadcastInDim (shape3 2 R 4) ![0, 1] f.bOut (inRange f last i) (ix3 b r c) = 1#1 := by
    refine Eq.trans (broadcastInDim_apply _ f.bOut _ _ (ix2 b r) fun a => ?_) hin
    match a with
    | ⟨0, _⟩ =>
      show b.val = if (2 : Nat) = 1 then 0 else b.val
      rw [if_neg (by decide)]
    | ⟨1, _⟩ =>
      show r.val = if R = 1 then 0 else r.val
      have := r.isLt
      split <;> omega
  rw [hb]
  exact gather_rows (takeDims f) rfl rfl rfl rfl rfl rfl x i b r c (k b r) (hi b r) hN

/-- Index words as the lowering first brings them to non-negative ones: `n` is added to a negative word. -/
def wrapIdx {s : Shape} (hb : shape0.BroadcastsInDim s (![] : Fin 0 → Fin s.rank)) (n : BitVec 32) (i : IVec s 32) : IVec s 32 :=
  select (cmpi .slt i (broadcastInDim s ![] hb (constantI shape0 32 0#32))) (addi i (broadcastInDim s ![] hb (constantI shape0 32 n))) i

/-- A word that is not negative is left as it is. -/
theorem wrapIdx_apply {s : Shape} (hb : shape0.BroadcastsInDim s (![] : Fin 0 → Fin s.rank)) (n : BitVec 32) (i : IVec s 32) (j : s.Idx) (k : Nat)
    (hk : k < 2 ^ 31) (hi : i j = BitVec.ofNat 32 k) : wrapIdx hb n i j = BitVec.ofNat 32 k := by
  unfold wrapIdx
  rw [select_at, cmpi_at, bc0, constantI_at, hi]
  exact wrap_of_lt _ _ (by rw [BitVec.toNat_ofNat, Nat.mod_eq_of_lt (by omega)]; exact hk)

end Cert.Rows

end
-- ==== Proof.Counting.lean ====
/-
  Positions of the kept entries of a row by counting: the number of entries kept among the first few, and the position at
  which a given count is first passed.
-/
module

public import Idealize.ShloMosaic.Lib.Routing.Count

@[expose] public section

namespace Cert.Rows

open Idealize.ShloMosaic Idealize.ShloMosaic.Routing

/-- How many of a row's first `n` entries are kept. -/
def kept (p : Nat → Bool) (n : Nat) : Nat := Nat.count (fun i => p i = true) n

/-- The number of entries, of the first `n`, up to which at most `r` are kept: the position of kept entry `r`. -/
def place (p : Nat → Bool) (n r : Nat) : Nat := Nat.count (fun i => kept p (i + 1) ≤ r) n

theorem kept_le (p : Nat → Bool) (n : Nat) : kept p n ≤ n := Nat.count_le _
theorem place_le (p : Nat → Bool) (n r : Nat) : place p n r ≤ n := Nat.count_le _

theorem kept_mono (p : Nat → Bool) {a b : Nat} (h : a ≤ b) : kept p a ≤ kept p b := Nat.count_monotone _ h

/-- A kept entry's position is among the entries. -/
theorem place_lt (p : Nat → Bool) (n r : Nat) (h : r < kept p n) : place p n r < n :=
  count_nonzero_lt (fun i => p i = true) n r h

/-- The number kept is the sum of the flags. -/
theorem kept_eq_sum (p : Nat → Bool) (n : Nat) : ((List.range n).map fun i => if p i = true then 1 else 0).sum = kept p n := by
  induction n with
  | zero => rfl
  | succ n ih => rw [List.range_succ, List.map_append, List.sum_append, ih, kept, kept, Nat.count_succ]; simp

/-- Entries past the last kept one change no count. -/
theorem kept_extend (p : Nat → Bool) (n m : Nat) (h : ∀ i, n ≤ i → p i = false) : kept p (n + m) = kept p n := by
  unfold kept
  rw [Nat.count_add, (Nat.count_false m ▸ count_congr_of_lt m fun i _ => by rw [h (n + i) (by omega)]; simp :
    Nat.count (fun i => p (n + i) = true) m = 0), Nat.add_zero]

/-- Nor do they change the position of a kept entry. -/
theorem place_extend (p : Nat → Bool) (n m r : Nat) (h : ∀ i, n ≤ i → p i = false) (hr : r < kept p n) :
    place p (n + m) r = place p n r := by
  unfold place
  rw [Nat.count_add, (Nat.count_false m ▸ count_congr_of_lt m fun i _ => by
      have : kept p n ≤ kept p (n + i + 1) := kept_mono p (by omega)
      exact iff_of_false (by omega) (by simp) : Nat.count (fun i => kept p (n + i + 1) ≤ r) m = 0), Nat.add_zero]

end Cert.Rows
-- ==== Proof.Compact.lean ====
/-
  Compacting the kept entries of each of two rows, as `jnp.nonzero` with a size, a clip, a take and a product by the validity
  flag lower: result entry `r` is the box at the position of kept entry `r`, and zero where fewer are kept.
-/
module

public import proofs.«01_k».proof.Proof.Take
public import proofs.«01_k».proof.Proof.Counting
public import Idealize.ShloMosaic.Lib.ValueIdx

@[expose] public section

noncomputable section

namespace Cert.Rows

open Idealize.ShloMosaic Idealize.ShloMosaic.ValueIdx Idealize.ShloMosaic.Routing Idealize.ShloMosaic.WordCmp

/-- The side conditions of compacting rows of `n` entries to 2000. -/
structure CompactFacts (n n1 : Nat) : Prop where
  lt : 1 < 32
  hu : 0 < shape0.numel
  bS : shape0.BroadcastsInDim shape0 (![] : Fin 0 → Fin 0)
  bSr : shape0.BroadcastsInDim (shape2 2 2000) (![] : Fin 0 → Fin 2)
  bSn : shape0.BroadcastsInDim (shape2 2 n) (![] : Fin 0 → Fin 2)
  bS2 : shape0.BroadcastsInDim (shape1 2) (![] : Fin 0 → Fin 1)
  bS21 : shape0.BroadcastsInDim (shape2 2 1) (![] : Fin 0 → Fin 2)
  bS1 : shape0.BroadcastsInDim (shape1 1) (![] : Fin 0 → Fin 1)
  b2 : (shape1 2).BroadcastsInDim (shape2 2 1) (![0] : Fin 1 → Fin 2)
  b21n : (shape2 2 1).BroadcastsInDim (shape2 2 n) (![0, 1] : Fin 2 → Fin 2)
  b21r : (shape2 2 1).BroadcastsInDim (shape2 2 2000) (![0, 1] : Fin 2 → Fin 2)
  bnL : (shape2 2 n).BroadcastsInDim (shape3 2 n 1) (![0, 1] : Fin 2 → Fin 3)
  brL : (shape2 2 2000).BroadcastsInDim (shape3 2 2000 1) (![0, 1] : Fin 2 → Fin 3)
  br4 : (shape3 2 2000 1).BroadcastsInDim (shape3 2 2000 4) (![0, 1, 2] : Fin 3 → Fin 3)
  bI : (shape1 2000).BroadcastsInDim (shape2 1 2000) (![1] : Fin 1 → Fin 2)
  bI2 : (shape2 1 2000).BroadcastsInDim (shape2 2 2000) (![0, 1] : Fin 2 → Fin 2)
  b1r : (shape1 1).BroadcastsInDim (shape2 2 2000) (![1] : Fin 1 → Fin 2)
  winN : (shape2 2 n).ReduceWindows (![1, n] : Fin 2 → Nat) ![1, 1] ![0, n1] ![0, 0] (shape2 2 n)
  winR : (shape2 2 2000).ReduceWindows (![1, 2000] : Fin 2 → Nat) ![1, 1] ![0, 1999] ![0, 0] (shape2 2 2000)
  cat : Shape.Concatenates [shape3 2 n 1, shape3 2 n 1] (shape3 2 n 2) 2
  red : (shape2 2 n).ReducesTo [1] (shape1 2)
  swf : ScatterDims.WF (shape2 2 2000) (shape3 2 n 2) (shape2 2 n) [] [0, 1] [0, 1] 2
  take : TakeFacts n 2000

variable {n n1 : Nat} (f : CompactFacts n n1)

/-- The running number of kept entries of each row. -/
def runs (mask : IVec (shape2 2 n) 1) : IVec (shape2 2 n) 32 :=
  Host.reduceWindow IntOp.addi ![1, n] ![1, 1] ![0, n1] ![0, 0] (extui 32 mask f.lt)
    (broadcastInDim shape0 ![] f.bS (constantI shape0 32 0#32)) f.winN f.hu

/-- Each row's number. -/
def rowNo : IVec (shape2 2 1) 32 :=
  broadcastInDim (shape2 2 1) ![0] f.b2 (addi (broadcastInDim (shape1 2) ![] f.bS2 (constantI shape0 32 0#32))
    (muli (broadcastInDim (shape1 2) ![] f.bS2 (constantI shape0 32 1#32)) (iotaInDim (shape1 2) 32 0)))

/-- The dimension numbers of the histogram's scatter. -/
def histDims : ScatterDims (shape2 2 2000) (shape3 2 n 2) (shape2 2 n) where
  updateWindowDims := []
  insertedWindowDims := [0, 1]
  scatterDimsToOperandDims := [0, 1]
  indexVectorDim := 2
  wf := f.swf

/-- How many entries have each running number, in each row. -/
def hist (cs : IVec (shape2 2 n) 32) : IVec (shape2 2 2000) 32 :=
  Host.scatter (histDims f) IntOp.addi (broadcastInDim (shape2 2 2000) ![] f.bSr (constantI shape0 32 0#32))
    (concatenate (shape3 2 n 2) 2
      [⟨shape3 2 n 1, broadcastInDim (shape3 2 n 1) ![0, 1] f.bnL (broadcastInDim (shape2 2 n) ![0, 1] f.b21n (wrapIdx f.bS21 2#32 (rowNo f)))⟩,
       ⟨shape3 2 n 1, broadcastInDim (shape3 2 n 1) ![0, 1] f.bnL (wrapIdx f.bSn 2000#32 cs)⟩] f.cat)
    (broadcastInDim (shape2 2 n) ![] f.bSn (constantI shape0 32 1#32))

/-- The running sum of the histogram. -/
def sums (h : IVec (shape2 2 2000) 32) : IVec (shape2 2 2000) 32 :=
  Host.reduceWindow IntOp.addi ![1, 2000] ![1, 1] ![0, 1999] ![0, 0] h
    (broadcastInDim shape0 ![] f.bS (constantI shape0 32 0#32)) f.winR f.hu

/-- The quotient by one. -/
def quot (s : IVec (shape2 2 2000) 32) : IVec (shape2 2 2000) 32 := pyDiv f.bSr s (id (constantI shape0 32 1#32))

/-- The remainder by the row's length. -/
def rest (len : BitVec 32) (s : IVec (shape2 2 2000) 32) : IVec (shape2 2 2000) 32 := pyRem f.bSr s (id (constantI shape0 32 len))

/-- Which result entries lie past the number kept. -/
def past (mask : IVec (shape2 2 n) 1) : IVec (shape2 2 2000) 1 :=
  cmpi .sge (broadcastInDim (shape2 2 2000) ![0, 1] f.bI2 (broadcastInDim (shape2 1 2000) ![1] f.bI (iotaInDim (shape1 2000) 32 0)))
    (broadcastInDim (shape2 2 2000) ![0, 1] f.b21r (broadcastInDim (shape2 2 1) ![0] f.b2
      (Host.reduce IntOp.addi (extui 32 mask f.lt) (constantI shape0 32 0#32) f.red f.hu)))

/-- The position of each result entry, minus one past the number kept. -/
def position (mask : IVec (shape2 2 n) 1) (q : IVec (shape2 2 2000) 32) : IVec (shape2 2 2000) 32 :=
  select (past f mask) (broadcastInDim (shape2 2 2000) ![1] f.b1r (broadcastInDim (shape1 1) ![] f.bS1 (constantI shape0 32 4294967295#32))) q

/-- One where a result entry is a kept one, else zero. -/
def valid (p : IVec (shape2 2 2000) 32) : FVec Ideal (shape3 2 2000 1) .f32 :=
  broadcastInDim (shape3 2 2000 1) ![0, 1] f.brL (uitofp .f32 (cmpi .sge p (broadcastInDim (shape2 2 2000) ![] f.bSr (constantI shape0 32 0#32))))

/-- The position clipped to the 6000 entries there are. -/
def clipped (p : IVec (shape2 2 2000) 32) : IVec (shape2 2 2000) 32 :=
  minsi (broadcastInDim (shape2 2 2000) ![] f.bSr (id (constantI shape0 32 5999#32)))
    (maxsi (broadcastInDim (shape2 2 2000) ![] f.bSr (id (constantI shape0 32 0#32))) p)

/-- The boxes at the clipped positions. -/
def taken (len last : BitVec 32) (x : FVec Ideal (shape3 2 n 4) .f32) (p : IVec (shape2 2 2000) 32) : FVec Ideal (shape3 2 2000 4) .f32 :=
  takeFrom f.take last x (broadcastInDim (shape3 2 2000 1) ![0, 1] f.brL (wrapIdx f.bSr len p))

/-- The kept boxes of each row, in order, then zeros. -/
def compact (len last : BitVec 32) (mask : IVec (shape2 2 n) 1) (x : FVec Ideal (shape3 2 n 4) .f32) : FVec Ideal (shape3 2 2000 4) .f32 :=
  mulf (taken f len last x (clipped f (position f mask (rest f len (quot f (sums f (hist f (runs f mask))))))))
    (broadcastInDim (shape3 2 2000 4) ![0, 1, 2] f.br4 (valid f (position f mask (rest f len (quot f (sums f (hist f (runs f mask))))))))

variable (p : Nat → Nat → Bool) (mask : IVec (shape2 2 n) 1) (hm : ∀ (b : Fin 2) (j : Fin n), mask (ix2 b j) = 1#1 ↔ p b.val j.val = true)

/-- The running number at an entry is the number kept up to it. -/
theorem runs_apply (hn : n1 + 1 = n) (b : Fin 2) (j : Fin n) (hm : ∀ (b : Fin 2) (j : Fin n), mask (ix2 b j) = 1#1 ↔ p b.val j.val = true) :
    runs f mask (ix2 b j) = BitVec.ofNat 32 (kept (p b.val) (j.val + 1)) := by
  unfold runs
  rw [cumsum_rows hn _ (fun i => if p b.val i = true then 1 else 0) b (fun i => ?_) _ rfl f.winN f.hu j, kept_eq_sum]
  rw [extui_apply]
  by_cases h : p b.val i.val = true
  · rw [if_pos h, (hm b i).2 h]; rfl
  · rw [if_neg h, eq_zero_of_ne_one fun h' => h ((hm b i).1 h')]; rfl

theorem rowNo_apply (a : Fin 2) : rowNo f (ix2 a (0 : Fin 1)) = BitVec.ofNat 32 a.val := by
  unfold rowNo
  rw [bcCol]
  show 0#32 + 1#32 * BitVec.ofNat 32 a.val = _
  simp

/-- A `[2, m]` array with an axis added, at an element. -/
theorem lane_apply {α : Type} {m : Nat} (h : (shape2 2 m).BroadcastsInDim (shape3 2 m 1) (![0, 1] : Fin 2 → Fin 3)) (v : (shape2 2 m).Idx → α)
    (a : Fin 2) (j : Fin m) : broadcastInDim (shape3 2 m 1) ![0, 1] h v (ix3 a j (0 : Fin 1)) = v (ix2 a j) := bcLane h v a j

/-- The histogram at a running number is how many entries have it. -/
theorem hist_apply (cs : IVec (shape2 2 n) 32) (g : Nat → Nat → Nat) (hg : ∀ (a : Fin 2) (j : Fin n), g a.val j.val < 2 ^ 31)
    (hcs : ∀ (a : Fin 2) (j : Fin n), cs (ix2 a j) = BitVec.ofNat 32 (g a.val j.val)) (b : Fin 2) (r : Fin 2000) :
    hist f cs (ix2 b r) = BitVec.ofNat 32 (Nat.count (fun j => g b.val j = r.val) n) := by
  unfold hist
  refine hist_rows (histDims f) rfl rfl rfl _ (fun _ => rfl) _ _ (fun _ => rfl) g (fun a j => ?_) (fun a j => ?_) hg b r
  · refine (concatenate_pair_apply_left (t := shape3 2 n 2) (2 : Fin 3) _ _ f.cat _ rfl (ix3 a j (0 : Fin 1)) fun e => ?_).trans ?_
    · match e with
      | ⟨0, _⟩ => rfl
      | ⟨1, _⟩ => rfl
      | ⟨2, _⟩ => rfl
    · rw [lane_apply]
      refine (broadcastInDim_apply _ f.b21n _ _ (ix2 a (0 : Fin 1)) fun e => ?_).trans ?_
      · match e with
        | ⟨0, _⟩ =>
          show a.val = if (2 : Nat) = 1 then 0 else a.val
          rw [if_neg (by decide)]
        | ⟨1, _⟩ => rfl
      · exact wrapIdx_apply _ _ _ _ _ (by have := a.isLt; omega) (rowNo_apply f a)
  · refine (concatenate_pair_apply_right (t := shape3 2 n 2) (2 : Fin 3) _ _ f.cat _ rfl rfl (ix3 a j (0 : Fin 1)) (fun e he => ?_) ?_).trans ?_
    · match e with
      | ⟨0, _⟩ => rfl
      | ⟨1, _⟩ => rfl
      | ⟨2, _⟩ => exact absurd rfl he
    · rfl
    · rw [lane_apply]
      exact wrapIdx_apply _ _ _ _ _ (hg a j) (hcs a j)

/-- The running sum of the histogram at `r` is the position of kept entry `r`. -/
theorem sums_apply (hn : n1 + 1 = n) (hn31 : n < 2 ^ 31) (b : Fin 2) (r : Fin 2000)
    (hm : ∀ (b : Fin 2) (j : Fin n), mask (ix2 b j) = 1#1 ↔ p b.val j.val = true) :
    sums f (hist f (runs f mask)) (ix2 b r) = BitVec.ofNat 32 (place (p b.val) n r.val) := by
  unfold sums
  have hlt : ∀ (a : Fin 2) (j : Fin n), kept (p a.val) (j.val + 1) < 2 ^ 31 := fun a j => by
    have := kept_le (p a.val) (j.val + 1)
    have := j.isLt
    omega
  rw [cumsum_rows (show 1999 + 1 = 2000 from rfl) _ (fun y => Nat.count (fun j => kept (p b.val) (j + 1) = y) n) b (fun i =>
    hist_apply f (runs f mask) (fun a j => kept (p a) (j + 1)) hlt (fun a j => runs_apply f p mask hn a j hm) b i) _ rfl f.winR f.hu r,
    sum_count_eq (fun j => kept (p b.val) (j + 1))]
  rfl

/-- The number kept, against a result entry. -/
theorem past_apply (hn31 : n < 2 ^ 31) (b : Fin 2) (r : Fin 2000)
    (hm : ∀ (b : Fin 2) (j : Fin n), mask (ix2 b j) = 1#1 ↔ p b.val j.val = true) :
    past f mask (ix2 b r) = BitVec.ofBool (decide (kept (p b.val) n ≤ r.val)) := by
  unfold past
  rw [cmpi_at, bcCols, bcRows, reduce_count (by omega) mask f.lt f.red f.hu b (fun i => p b.val i = true) (fun q => hm b q)]
  have h1 := kept_le (p b.val) n
  have h2 := r.isLt
  exact cmpi_sge_ofNat (w := 32) (by show r.val < _; omega) (by unfold kept at h1; omega)

/-- The position of a result entry. -/
theorem position_apply (hn : n1 + 1 = n) (hn31 : n < 2 ^ 31) (b : Fin 2) (r : Fin 2000)
    (hm : ∀ (b : Fin 2) (j : Fin n), mask (ix2 b j) = 1#1 ↔ p b.val j.val = true) :
    position f mask (rest f (BitVec.ofNat 32 n) (quot f (sums f (hist f (runs f mask))))) (ix2 b r)
      = if r.val < kept (p b.val) n then BitVec.ofNat 32 (place (p b.val) n r.val) else 4294967295#32 := by
  unfold position
  rw [select_at, past_apply f p mask hn31 b r hm]
  by_cases h : r.val < kept (p b.val) n
  · rw [if_pos h, decide_eq_false (by omega)]
    refine (WordCmp.select_zero _ _).trans ?_
    have hp := place_lt (p b.val) n r.val h
    unfold rest quot
    rw [pyRem_ap f.bSr _ _ (ix2 b r) (pyDiv_ap f.bSr _ _ (ix2 b r) (sums_apply f p mask hn hn31 b r hm) (b := 1) rfl (by omega) (by omega) (by omega))
      (b := n) rfl (by rw [Nat.div_one]; omega) (by omega) hn31, Nat.div_one, Nat.mod_eq_of_lt hp]
  · rw [if_neg h, decide_eq_true (by omega)]
    exact WordCmp.select_one _ _

/-- COMPACTION: result entry `r` of row `b` is the box at the position of the row's kept entry `r`, and zero where the row
    has no such kept entry. The boxes need only be known at the 6000 entries there are. -/
theorem compact_apply (hn : n1 + 1 = n) (hn31 : n < 2 ^ 31) (h6 : 6000 ≤ n) (x : FVec Ideal (shape3 2 n 4) .f32) (B : Nat → Nat → Fin 4 → EReal)
    (hx : ∀ (b : Fin 2) (j : Fin n) (c : Fin 4), j.val < 6000 → x (ix3 b j c) = B b.val j.val c)
    (hp6 : ∀ b i, 6000 ≤ i → p b i = false)
    (hm : ∀ (b : Fin 2) (j : Fin n), mask (ix2 b j) = 1#1 ↔ p b.val j.val = true) (b : Fin 2) (r : Fin 2000) (c : Fin 4) :
    compact f (BitVec.ofNat 32 n) (BitVec.ofNat 32 (n - 1)) mask x (ix3 b r c)
      = if r.val < kept (p b.val) 6000 then B b.val (place (p b.val) 6000 r.val) c else 0 := by
  have hk : ∀ b : Nat, kept (p b) n = kept (p b) 6000 := fun b => by
    have := kept_extend (p b) 6000 (n - 6000) (hp6 b)
    rwa [show 6000 + (n - 6000) = n by omega] at this
  have hpl : ∀ b r : Nat, r < kept (p b) 6000 → place (p b) n r = place (p b) 6000 r := fun b r hr => by
    have := place_extend (p b) 6000 (n - 6000) r (hp6 b) hr
    rwa [show 6000 + (n - 6000) = n by omega] at this
  generalize hP : position f mask (rest f (BitVec.ofNat 32 n) (quot f (sums f (hist f (runs f mask))))) = P
  have hpos : ∀ (b : Fin 2) (r : Fin 2000), P (ix2 b r)
      = if r.val < kept (p b.val) 6000 then BitVec.ofNat 32 (place (p b.val) 6000 r.val) else 4294967295#32 := fun b r => by
    rw [← hP, position_apply f p mask hn hn31 b r hm, hk]
    by_cases h : r.val < kept (p b.val) 6000
    · rw [if_pos h, if_pos h, hpl _ _ h]
    · rw [if_neg h, if_neg h]
  have hclip : ∀ (b : Fin 2) (r : Fin 2000), clipped f P (ix2 b r)
      = BitVec.ofNat 32 (if r.val < kept (p b.val) 6000 then place (p b.val) 6000 r.val else 0) := fun b r => by
    show IntOp.minsi 5999#32 (IntOp.maxsi 0#32 (P (ix2 b r))) = _
    rw [hpos]
    by_cases h : r.val < kept (p b.val) 6000
    · rw [if_pos h, if_pos h]
      have hlt := place_lt (p b.val) 6000 r.val h
      refine (clip_word (x := place (p b.val) 6000 r.val) (lo := 0) (hi := 5999) (by omega) (by omega) (by omega)).trans ?_
      exact congrArg _ (by omega)
    · rw [if_neg h, if_neg h]
      decide
  have hkk : ∀ (b : Fin 2) (r : Fin 2000), (if r.val < kept (p b.val) 6000 then place (p b.val) 6000 r.val else 0) < 6000 := fun b r => by
    by_cases h : r.val < kept (p b.val) 6000
    · rw [if_pos h]; exact place_lt _ _ _ h
    · rw [if_neg h]; omega
  obtain ⟨k, hkv⟩ : ∃ k : Fin 2 → Fin 2000 → Fin n, ∀ b r, (k b r).val = if r.val < kept (p b.val) 6000 then place (p b.val) 6000 r.val else 0 :=
    ⟨fun b r => Fin.mk _ (lt_of_lt_of_le (hkk b r) h6), fun _ _ => Fin.val_mk _⟩
  have htake : taken f (BitVec.ofNat 32 n) (BitVec.ofNat 32 (n - 1)) x (clipped f P) (ix3 b r c)
      = B b.val (if r.val < kept (p b.val) 6000 then place (p b.val) 6000 r.val else 0) c := by
    unfold taken
    rw [takeFrom_apply f.take _ rfl hn31 x _ k (fun b r => ?_) b r c]
    · rw [hx b (k b r) c ((hkv b r).trans_lt (hkk b r)), hkv]
    · rw [lane_apply]
      have h1 := (hkv b r).trans_lt (hkk b r)
      exact wrapIdx_apply _ _ _ _ _ (by omega) (by rw [hkv]; exact hclip b r)
  have hvalid : broadcastInDim (shape3 2 2000 4) ![0, 1, 2] f.br4 (valid f P) (ix3 b r c) = if r.val < kept (p b.val) 6000 then (1 : EReal) else 0 := by
    refine (broadcastInDim_apply _ f.br4 _ _ (ix3 b r (0 : Fin 1)) fun e => ?_).trans ?_
    · match e with
      | ⟨0, _⟩ =>
        show b.val = if (2 : Nat) = 1 then 0 else b.val
        rw [if_neg (by decide)]
      | ⟨1, _⟩ =>
        show r.val = if (2000 : Nat) = 1 then 0 else r.val
        rw [if_neg (by decide)]
      | ⟨2, _⟩ => rfl
    · unfold valid
      rw [lane_apply]
      show ((IntOp.cmpi .sge (P (ix2 b r)) 0#32).toNat : EReal) = _
      rw [hpos]
      by_cases h : r.val < kept (p b.val) 6000
      · rw [if_pos h, if_pos h]
        have hlt := place_lt (p b.val) 6000 r.val h
        rw [show (0#32 : BitVec 32) = BitVec.ofNat 32 0 from rfl, cmpi_sge_ofNat (w := 32) (by omega) (by omega), decide_eq_true (Nat.zero_le _)]
        simp
      · rw [if_neg h, if_neg h, show IntOp.cmpi .sge 4294967295#32 0#32 = 0#1 by decide]
        simp
  unfold compact
  rw [hP, ValueIdx.mulf_apply, htake, hvalid]
  by_cases h : r.val < kept (p b.val) 6000
  · rw [if_pos h, if_pos h, if_pos h, mul_one]
  · rw [if_neg h, if_neg h, if_neg h, mul_zero]

end Cert.Rows

end
-- ==== Proof.KernelTail.lean ====
/-
  What the kernel's host lines after the region leave in the result: the compaction of the boxes and keep flags the region
  wrote.
-/
module

public import proofs.«01_k».proof.Proof.KernelIdealRun
public import proofs.«01_k».proof.Proof.Compact
public import Idealize.ShloMosaic.Lib.StableHlo.RunLoop

@[expose] public section

set_option maxRecDepth 16384

noncomputable section

namespace Cert.KernelIdeal.Own

open Cert.KernelIdeal Cert.KernelIdeal.Gen Cert.Rows Idealize.ShloMosaic.Routing
open Idealize.ShloMosaic Idealize.ShloMosaic.TcCoe Idealize.ShloMosaic.Tactic Idealize.ShloMosaic.StableHlo

/-- The side conditions of the compaction, from the program's. -/
theorem compactFacts : CompactFacts 6144 6143 where
  lt := natLt_1_32
  hu := h_S_
  bS := bcast_S_S_
  bSr := bcast_S_S2x2000
  bSn := bcast_S_S2x6144
  bS2 := bcast_S_S2
  bS21 := bcast_S_S2x1
  bS1 := bcast_S_S1
  b2 := bcast_S2_S2x1_0
  b21n := bcast_S2x1_S2x6144_0_1
  b21r := bcast_S2x1_S2x2000_0_1
  bnL := bcast_S2x6144_S2x6144x1_0_1
  brL := bcast_S2x2000_S2x2000x1_0_1
  br4 := bcast_S2x2000x1_S2x2000x4_0_1_2
  bI := bcast_S2000_S1x2000_1
  bI2 := bcast_S1x2000_S2x2000_0_1
  b1r := bcast_S1_S2x2000_1
  winN := reduceWindows_S2x6144_S2x6144_w1s1p0_0_w6144s1p6143_0
  winR := reduceWindows_S2x2000_S2x2000_w1s1p0_0_w2000s1p1999_0
  cat := concatenates_S2x6144x1_S2x6144x1_S2x6144x2_d2
  red := reducesTo_S2x6144_S2_d1
  swf := scatter_S2x2000_S2x6144x2_S2x6144_n_01_01_2_wf
  take :=
    { bSi := bcast_S_S2x2000x1
      bLane := bcast_S2x2000_S2x2000x1_0_1
      b1 := bcast_S1_S1x1x1_2
      b111 := bcast_S1x1x1_S2x2000x1_0_1_2
      red := reducesTo_S2x2000x1_S2x2000_d2
      hu := h_S_
      bOut := bcast_S2x2000_S2x2000x4_0_1
      bNan := bcast_S_S2x2000x4
      wf := gather_S2x6144x4_S2x2000x1_S2x2000x4_2_1_0_0_1_2_114_wf }

/-- A TensorCore buffer's contents in a valuation. -/
abbrev rd (V : Valuation τ sig (Elt Ideal)) (b : Ref sig .tc) := V (Proc.devRef .tc b)

attribute [local irreducible] Host.reduceWindow Host.reduce Host.scatter Host.gather

variable (V : Valuation τ sig (Elt Ideal))

/-- The boxes laid out row by row. -/
def rowsOf (x : FVec Ideal S2x4x6144 .f32) : FVec Ideal S2x6144x4 .f32 :=
  transpose S2x6144x4 [0, 2, 1] x transposes_S2x4x6144_S2x6144x4_0_2_1

/-- The keep flags as bits. -/
def bitsOf (x : FVec Ideal S2x1x6144 .f32) : IVec S2x6144 1 :=
  cmpf .ogt (shapeCast S2x6144 x shapeCasts_S2x1x6144_S2x6144) (broadcastInDim S2x6144 ![] bcast_S_S2x6144 (constant S_ .f32 0x3F000000#32))

theorem stage0_v14 : rd (after hostOps1 V) main_v14 = rowsOf (rd V main_v13_0) := by
  unfold rd
  after_results
  rfl
theorem stage0_v17 : rd (after hostOps1 V) main_v17 = bitsOf (rd V main_v13_1) := by
  unfold rd
  after_results
  rfl
theorem stage1 : rd (after hostOps1_1 V) main_v18 = runs compactFacts (rd V main_v17) := by
  unfold rd
  after_results
  rfl
theorem stage2 : rd (after hostOps1_2 V) main_v41 = hist compactFacts (rd V main_v18) := by
  unfold rd
  after_results
  rfl
theorem stage3 : rd (after hostOps1_3 V) main_v42 = sums compactFacts (rd V main_v41) := by
  unfold rd
  after_results
  rfl
theorem stage4 : rd (after hostOps1_4 V) main_c_10 = constantI S_ 32 1#32 := by
  unfold rd
  after_results
theorem stage5 (h : rd V main_c_10 = constantI S_ 32 1#32) : rd (after hostOps1_5 V) main_v43 = quot compactFacts (rd V main_v42) := by
  unfold quot
  refine Eq.trans ?_ (congrArg (fun d => Routing.pyDiv compactFacts.bSr (rd V main_v42) (id d)) h)
  unfold rd
  after_results
  rfl
theorem stage6 : rd (after hostOps1_6 V) main_c_11 = constantI S_ 32 6144#32 := by
  unfold rd
  after_results
set_option maxHeartbeats 1000000 in
seal Host.remsi broadcastInDim constantI select cmpi addi andi in
theorem stage7 (h : rd V main_c_11 = constantI S_ 32 6144#32) : rd (after hostOps1_7 V) main_v44 = rest compactFacts 6144#32 (rd V main_v43) := by
  unfold rest
  refine Eq.trans ?_ (congrArg (fun d => Routing.pyRem compactFacts.bSr (rd V main_v43) (id d)) h)
  unfold rd Routing.pyRem Routing.divGuard
  after_results
  rfl
theorem stage8_v52 : rd (after hostOps1_8 V) main_v52 = past compactFacts (rd V main_v17) := by
  unfold rd past
  after_results
theorem stage8_v53 : rd (after hostOps1_8 V) main_v53 = broadcastInDim S1 ![] bcast_S_S1 (constantI S_ 32 4294967295#32) := by
  unfold rd
  after_results
theorem stage9 (mask : IVec S2x6144 1) (h : rd V main_v52 = past compactFacts mask)
    (h' : rd V main_v53 = broadcastInDim S1 ![] bcast_S_S1 (constantI S_ 32 4294967295#32)) :
    rd (after hostOps1_9 V) main_v54 = position compactFacts mask (rd V main_v44) := by
  unfold position
  rw [← h]
  refine Eq.trans ?_ (congrArg (fun d => select (rd V main_v52) (broadcastInDim S2x2000 ![1] bcast_S1_S2x2000_1 d) (rd V main_v44)) h')
  unfold rd
  after_results
  rfl
theorem stage10_v58 : rd (after hostOps1_10 V) main_v58 = valid compactFacts (rd V main_v54) := by
  unfold rd
  after_results
  rfl
theorem stage10_c15 : rd (after hostOps1_10 V) main_c_15 = constantI S_ 32 0#32 := by
  unfold rd
  after_results
theorem stage10_c16 : rd (after hostOps1_10 V) main_c_16 = constantI S_ 32 5999#32 := by
  unfold rd
  after_results
theorem stage11 (h : rd V main_c_15 = constantI S_ 32 0#32) (h' : rd V main_c_16 = constantI S_ 32 5999#32) :
    rd (after hostOps1_11 V) main_v59 = clipped compactFacts (rd V main_v54) := by
  unfold clipped
  rw [show constantI shape0 32 0#32 = _ from h.symm, show constantI shape0 32 5999#32 = _ from h'.symm]
  unfold rd
  after_results
  rfl
theorem stage12 : rd (after hostOps1_12 V) main_v60 = taken compactFacts 6144#32 6143#32 (rd V main_v14) (rd V main_v59) := by
  unfold rd
  after_results
  rfl
theorem stage13 : rd (after hostOps1_13 V) main_v62
    = mulf (F := Ideal) (s := S2x2000x4) (φ := .f32) (rd V main_v60) (broadcastInDim S2x2000x4 ![0, 1, 2] bcast_S2x2000x1_S2x2000x4_0_1_2 (rd V main_v58)) := by
  unfold rd
  after_results

/-- A buffer a stretch of lines does not write keeps its contents. -/
theorem rd_keep {ops : List (HloOp τ sig (Elt Ideal))} {W : List (Ref sig .tc)}
    (hW : ops.Forall fun op => op.writes ⊆ (W.map (Proc.devRef (τ := τ) .tc)).toFinset) {b : Ref sig .tc} (hb : b ∉ W) :
    rd (after ops V) b = rd V b := after_of_writes_sub ops V hW hb

/-- THE TAIL: after the host lines that follow the region the result holds the compaction of the region's boxes by the
    region's keep flags. -/
theorem tail_value : rd (afterL tailOps V) main_v62
    = compact compactFacts 6144#32 6143#32 (bitsOf (rd V main_v13_1)) (rowsOf (rd V main_v13_0)) := by
  unfold tailOps
  simp only [afterL_cons, afterL_nil]
  rw [stage13, stage12]
  rw [rd_keep _ hostOps1_12_writes (b := main_v58) (by decide)]
  rw [stage11 _ (stage10_c15 _) (stage10_c16 _)]
  rw [rd_keep _ hostOps1_11_writes (b := main_v58) (by decide), stage10_v58]
  rw [rd_keep _ hostOps1_10_writes (b := main_v54) (by decide)]
  rw [stage9 _ _ (stage8_v52 _) (stage8_v53 _)]
  rw [rd_keep _ hostOps1_8_writes (b := main_v44) (by decide)]
  rw [rd_keep _ hostOps1_7_writes (b := main_v17) (by decide)]
  rw [stage7 _ (stage6 _)]
  rw [rd_keep _ hostOps1_6_writes (b := main_v43) (by decide)]
  rw [stage5 _ (stage4 _)]
  rw [rd_keep _ hostOps1_4_writes (b := main_v42) (by decide)]
  rw [stage3, stage2, stage1]
  rw [rd_keep _ hostOps1_6_writes (b := main_v17) (by decide), rd_keep _ hostOps1_5_writes (b := main_v17) (by decide),
    rd_keep _ hostOps1_4_writes (b := main_v17) (by decide), rd_keep _ hostOps1_3_writes (b := main_v17) (by decide),
    rd_keep _ hostOps1_2_writes (b := main_v17) (by decide), rd_keep _ hostOps1_1_writes (b := main_v17) (by decide), stage0_v17]
  rw [rd_keep _ hostOps1_11_writes (b := main_v14) (by decide), rd_keep _ hostOps1_10_writes (b := main_v14) (by decide),
    rd_keep _ hostOps1_9_writes (b := main_v14) (by decide), rd_keep _ hostOps1_8_writes (b := main_v14) (by decide),
    rd_keep _ hostOps1_7_writes (b := main_v14) (by decide), rd_keep _ hostOps1_6_writes (b := main_v14) (by decide),
    rd_keep _ hostOps1_5_writes (b := main_v14) (by decide), rd_keep _ hostOps1_4_writes (b := main_v14) (by decide),
    rd_keep _ hostOps1_3_writes (b := main_v14) (by decide), rd_keep _ hostOps1_2_writes (b := main_v14) (by decide),
    rd_keep _ hostOps1_1_writes (b := main_v14) (by decide), stage0_v14]
  rfl

end Cert.KernelIdeal.Own

end
-- ==== Proof.Boxes.lean ====
/-
  The box arithmetic over the extended reals: decoding a box from its deltas and anchor, the overlap of two boxes, and the
  greedy suppression over ranked boxes.
-/
module

public import proofs.«01_k».proof.Proof.Compact
public import Idealize.ShloMosaic.Lib.IdealHost

@[expose] public section

noncomputable section

namespace Cert.Boxes

open Idealize.ShloMosaic

/-- The value of a binary32 pattern. -/
abbrev lit (w : BitVec 32) : EReal := Ideal.ofBits .f32 w

/-- Clipping to the unit interval, in the bounds both programs print. -/
def clip (x : EReal) : EReal := min (lit 0x3F800000#32) (max (lit 0x00000000#32) x)

/-- A box's decoded extent along one axis: the anchor's extent times the exponential of the delta. -/
def size (a lo hi : EReal) : EReal := (hi - lo) * Ideal.exp a

/-- A box's decoded centre along one axis. -/
def centre (d lo hi : EReal) : EReal := (lo + lit 0x3F000000#32 * (hi - lo)) + d * (hi - lo)

/-- The lower edge before clipping: the centre less half the extent. -/
def low (d e lo hi : EReal) : EReal := centre d lo hi - lit 0x3F000000#32 * size e lo hi

/-- The upper edge before clipping, from the centre. -/
def high (d e lo hi : EReal) : EReal := centre d lo hi + lit 0x3F000000#32 * size e lo hi

/-- The upper edge before clipping, from the lower edge. -/
def highFrom (d e lo hi : EReal) : EReal := low d e lo hi + size e lo hi

/-- The clipped box, upper edges from the centre. -/
def box (d a : Fin 4 → EReal) : Fin 4 → EReal :=
  ![clip (low (d 0) (d 2) (a 0) (a 2)), clip (low (d 1) (d 3) (a 1) (a 3)), clip (high (d 0) (d 2) (a 0) (a 2)),
    clip (high (d 1) (d 3) (a 1) (a 3))]

/-- The clipped box, upper edges from the lower edges. -/
def boxFrom (d a : Fin 4 → EReal) : Fin 4 → EReal :=
  ![clip (low (d 0) (d 2) (a 0) (a 2)), clip (low (d 1) (d 3) (a 1) (a 3)), clip (highFrom (d 0) (d 2) (a 0) (a 2)),
    clip (highFrom (d 1) (d 3) (a 1) (a 3))]

/-- The pattern of one half denotes one half. -/
theorem lit_half : lit 0x3F000000#32 = (((1 : ℝ) / 2 : ℝ) : EReal) := by
  simp [lit, Ideal.ofBits, Ideal.ieee]
  norm_num
  norm_cast
  norm_num

/-- A finite value: neither infinity. -/
def Fine (x : EReal) : Prop := ∃ r : ℝ, x = (r : EReal)

/-- On finite deltas and anchors the two readings of the upper edge agree. -/
theorem highFrom_eq {d e lo hi : EReal} (hd : Fine d) (he : Fine e) (hl : Fine lo) (hh : Fine hi) :
    highFrom d e lo hi = high d e lo hi := by
  obtain ⟨d, rfl⟩ := hd
  obtain ⟨e, rfl⟩ := he
  obtain ⟨lo, rfl⟩ := hl
  obtain ⟨hi, rfl⟩ := hh
  have hexp : Ideal.exp (e : EReal) = ((Real.exp e : ℝ) : EReal) := rfl
  unfold highFrom high low centre size
  rw [lit_half, hexp]
  norm_cast
  ring

/-- On finite deltas and anchors the two boxes agree. -/
theorem boxFrom_eq {d a : Fin 4 → EReal} (hd : ∀ c, Fine (d c)) (ha : ∀ c, Fine (a c)) : boxFrom d a = box d a := by
  unfold boxFrom box
  rw [highFrom_eq (hd 0) (hd 2) (ha 0) (ha 2), highFrom_eq (hd 1) (hd 3) (ha 1) (ha 3)]

/-- A product of finite values is finite. -/
theorem Fine.mul {x y : EReal} (hx : Fine x) (hy : Fine y) : Fine (x * y) := by
  obtain ⟨x, rfl⟩ := hx
  obtain ⟨y, rfl⟩ := hy
  exact ⟨x * y, by norm_cast⟩

/-- The area of a box. -/
def area (b : Fin 4 → EReal) : EReal := (b 2 - b 0) * (b 3 - b 1)

/-- The area two boxes share. -/
def inter (p q : Fin 4 → EReal) : EReal :=
  max (min (p 2) (q 2) - max (p 0) (q 0)) (lit 0x00000000#32) * max (min (p 3) (q 3) - max (p 1) (q 1)) (lit 0x00000000#32)

/-- The overlap ratio of two boxes. -/
def iou (p q : Fin 4 → EReal) : EReal := Ideal.div (inter p q) ((area p + area q) - inter p q + lit 0x322BCC77#32)

/-- The keep flags after `k` steps of greedy suppression: step `i` clears every later box that overlaps box `i` too much,
    if box `i` itself is still kept. -/
def keep (bx : Nat → Fin 4 → EReal) : Nat → Nat → Bool
  | 0, j => decide (j < 6000)
  | i + 1, j => keep bx i j && !(decide (lit 0x3F333333#32 < iou (bx i) (bx j)) && keep bx i i && decide (i < j))

/-- No flag is set past the ranked boxes. -/
theorem keep_of_le (bx : Nat → Fin 4 → EReal) : ∀ (k j : Nat), 6000 ≤ j → keep bx k j = false
  | 0, j, h => by rw [keep]; exact decide_eq_false (by omega)
  | k + 1, j, h => by rw [keep, keep_of_le bx k j h, Bool.false_and]

end Cert.Boxes

end
-- ==== Proof.Inputs.lean ====
/-
  What both programs read from their arguments: the positions of the top scores, and the deltas and anchors at those
  positions; and the result both compute from them.
-/
module

public import proofs.«01_k».proof.Proof.Boxes

@[expose] public section

set_option maxRecDepth 16384

noncomputable section

namespace Cert.Inputs

open Idealize.ShloMosaic Idealize.ShloMosaic.ValueIdx Idealize.ShloMosaic.Routing Idealize.ShloMosaic.WordCmp
open Cert.Rows Cert.Boxes

/-- The side conditions of ranking the scores and taking the ranked rows. -/
structure RankFacts : Prop where
  slice : (shape3 2 261888 2).Slices ![0, 0, 1] (shape3 2 261888 1)
  cast : (shape3 2 261888 1).ShapeCasts (shape2 2 261888)
  fits : (shape2 2 261888).Slices (fun _ => 0) (shape2 2 6000)
  lane : (shape2 2 6000).BroadcastsInDim (shape3 2 6000 1) (![0, 1] : Fin 2 → Fin 3)
  flat : (shape1 4).ShapeCasts (shape3 1 1 4)
  take : TakeFacts 261888 6000

variable (f : RankFacts)

/-- The scores that are ranked. -/
def scores (x0 : FVec Ideal (shape3 2 261888 2) .f32) : FVec Ideal (shape2 2 261888) .f32 :=
  shapeCast (shape2 2 261888) (extractStridedSlice (shape3 2 261888 1) ![0, 0, 1] x0 f.slice) f.cast

/-- The words of the positions of the ranked scores. -/
def rankWords (x0 : FVec Ideal (shape3 2 261888 2) .f32) : IVec (shape2 2 6000) 32 :=
  (Host.topK (shape2 2 6000) 1 (FloatOps.cmpfTotal (F := Ideal) (φ := .f32) .gt) (scores f x0) f.fits).2

theorem rank_exists (x0 : FVec Ideal (shape3 2 261888 2) .f32) (b : Fin 2) (j : Fin 6000) :
    ∃ k : Fin 261888, rankWords f x0 (ix2 b j) = BitVec.ofNat 32 k.val := by
  unfold rankWords
  exact topK_position _ _ _ b j

/-- The position of ranked score `j` of image `b`. -/
def pos (x0 : FVec Ideal (shape3 2 261888 2) .f32) (b : Fin 2) (j : Fin 6000) : Fin 261888 :=
  Classical.choose (rank_exists f x0 b j)

theorem rankWords_apply (x0 : FVec Ideal (shape3 2 261888 2) .f32) (b : Fin 2) (j : Fin 6000) :
    rankWords f x0 (ix2 b j) = BitVec.ofNat 32 (pos f x0 b j).val :=
  Classical.choose_spec (rank_exists f x0 b j)

/-- The ranked rows of a table. -/
def ranked (x0 : FVec Ideal (shape3 2 261888 2) .f32) (x : FVec Ideal (shape3 2 261888 4) .f32) :
    FVec Ideal (shape3 2 6000 4) .f32 :=
  takeFrom f.take 261887#32 x
    (wrapIdx f.take.bSi 261888#32 (broadcastInDim (shape3 2 6000 1) ![0, 1] f.lane (rankWords f x0)))

/-- Ranked row `j` is the table's row at the position of ranked score `j`. -/
theorem ranked_apply (x0 : FVec Ideal (shape3 2 261888 2) .f32) (x : FVec Ideal (shape3 2 261888 4) .f32) (b : Fin 2)
    (j : Fin 6000) (c : Fin 4) : ranked f x0 x (ix3 b j c) = x (ix3 b (pos f x0 b j) c) := by
  unfold ranked
  refine takeFrom_apply f.take 261887#32 (by decide) (by decide) x _ (pos f x0) (fun b j => ?_) b j c
  refine wrapIdx_apply _ _ _ _ _ (by have := (pos f x0 b j).isLt; omega) ?_
  rw [lane_apply, rankWords_apply]

/-- The scales of the four deltas. -/
def std : Fin 4 → EReal := ![lit 0x3DCCCCCD#32, lit 0x3DCCCCCD#32, lit 0x3E4CCCCD#32, lit 0x3E4CCCCD#32]

/-- The scales as both programs print them, spread over a table of any height. -/
theorem std_apply {n : Nat} (w : Fin 4 → BitVec 32)
    (hw : w 0 = 0x3DCCCCCD#32 ∧ w 1 = 0x3DCCCCCD#32 ∧ w 2 = 0x3E4CCCCD#32 ∧ w 3 = 0x3E4CCCCD#32)
    (hc : (shape1 4).ShapeCasts (shape3 1 1 4)) (hb : (shape3 1 1 4).BroadcastsInDim (shape3 2 n 4) (![0, 1, 2] : Fin 3 → Fin 3))
    (hn : (shape1 4).numel = 4) (b : Fin 2) (j : Fin n) (c : Fin 4) :
    broadcastInDim (shape3 2 n 4) ![0, 1, 2] hb (shapeCast (shape3 1 1 4)
      (fun i => (FloatOps.ofBits .f32 (w (((shape1 4).rowMajor i).cast hn)) : Ideal .f32)) hc) (ix3 b j c) = std c := by
  refine (broadcastInDim_apply _ hb _ _ (ix3 (0 : Fin 1) (0 : Fin 1) c) fun a => ?_).trans ?_
  · match a with
    | ⟨0, _⟩ => rfl
    | ⟨1, _⟩ => rfl
    | ⟨2, _⟩ => rfl
  refine (cast13 _ hc (0 : Fin 1) (0 : Fin 1) c c (by show c.val = (0 * 1 + 0) * 4 + c.val; omega)).trans ?_
  have hr : ((shape1 4).rowMajor (ix1 c)).cast hn = c := Fin.ext (by
    rw [Fin.val_cast, Shape.rowMajor_val_one])
  show lit (w (((shape1 4).rowMajor (ix1 c)).cast hn)) = std c
  rw [hr]
  obtain ⟨h0, h1, h2, h3⟩ := hw
  match c with
  | ⟨0, _⟩ => exact congrArg lit h0
  | ⟨1, _⟩ => exact congrArg lit h1
  | ⟨2, _⟩ => exact congrArg lit h2
  | ⟨3, _⟩ => exact congrArg lit h3

variable (x0 : FVec Ideal (shape3 2 261888 2) .f32) (x1 x2 : FVec Ideal (shape3 2 261888 4) .f32)

/-- The scaled deltas of ranked box `j`. -/
def delta (b : Fin 2) (j : Fin 6000) (c : Fin 4) : EReal := x1 (ix3 b (pos f x0 b j) c) * std c

/-- The anchor of ranked box `j`. -/
def anchor (b : Fin 2) (j : Fin 6000) (c : Fin 4) : EReal := x2 (ix3 b (pos f x0 b j) c)

/-- The ranked boxes of an image, numbered. -/
def boxes (b : Nat) (j : Nat) : Fin 4 → EReal :=
  if h : b < 2 ∧ j < 6000 then box (delta f x0 x1 ⟨b, h.1⟩ ⟨j, h.2⟩) (anchor f x0 x2 ⟨b, h.1⟩ ⟨j, h.2⟩) else fun _ => 0

theorem boxes_val (b : Fin 2) (j : Fin 6000) : boxes f x0 x1 x2 b.val j.val = box (delta f x0 x1 b j) (anchor f x0 x2 b j) :=
  dif_pos ⟨b.isLt, j.isLt⟩

/-- Whether box `j` of image `b` survives the suppression. -/
def survives (b : Nat) (j : Nat) : Bool := keep (boxes f x0 x1 x2 b) 6000 j

/-- THE RESULT of both programs: row `r` of image `b` is the box of the `r`-th survivor, or zero if there are fewer. -/
def result (b : Fin 2) (r : Fin 2000) (c : Fin 4) : EReal :=
  if r.val < kept (survives f x0 x1 x2 b.val) 6000 then boxes f x0 x1 x2 b.val (place (survives f x0 x1 x2 b.val) 6000 r.val) c
  else 0

/-- The flags after `k` steps depend only on the boxes stepped over and the box asked about. -/
theorem keep_congr (p q : Nat → Fin 4 → EReal) (h : ∀ j, j < 6000 → p j = q j) :
    ∀ k, k ≤ 6000 → ∀ j, keep p k j = keep q k j
  | 0, _, j => rfl
  | k + 1, hk, j => by
      by_cases hj : j < 6000
      · rw [keep, keep, keep_congr p q h k (by omega) j, keep_congr p q h k (by omega) k, h k (by omega), h j hj]
      · rw [keep_of_le p (k + 1) j (by omega), keep_of_le q (k + 1) j (by omega)]

/-- A pattern whose exponent field is not all ones is finite. -/
theorem lit_fine (w : BitVec 32) (h : ¬ (w.extractLsb' 23 8).toNat = 2 ^ 8 - 1) : Fine (lit w) := by
  show Fine (Ideal.ieee 8 23 w)
  unfold Ideal.ieee
  dsimp only
  rw [if_neg h]
  by_cases h0 : (w.extractLsb' 23 8).toNat = 0
  · rw [if_pos h0]
    exact ⟨_, rfl⟩
  · rw [if_neg h0]
    exact ⟨_, rfl⟩

/-- Both scales are finite. -/
theorem std_fine (c : Fin 4) : Fine (std c) := by
  have h1 : Fine (lit 0x3DCCCCCD#32) := lit_fine _ (by decide)
  have h2 : Fine (lit 0x3E4CCCCD#32) := lit_fine _ (by decide)
  match c with
  | ⟨0, _⟩ => exact h1
  | ⟨1, _⟩ => exact h1
  | ⟨2, _⟩ => exact h2
  | ⟨3, _⟩ => exact h2

/-- On finite boxes the reference's reading of a ranked box is the kernel's. -/
theorem boxFrom_boxes (h1 : ∀ i, Fine (x1 i)) (h2 : ∀ i, Fine (x2 i)) (b : Fin 2) (j : Fin 6000) :
    boxFrom (delta f x0 x1 b j) (anchor f x0 x2 b j) = boxes f x0 x1 x2 b.val j.val := by
  rw [boxes_val]
  exact boxFrom_eq (fun c => (h1 _).mul (std_fine c)) (fun c => h2 _)

end Cert.Inputs

end
-- ==== Proof.KernelPre.lean ====
/-
  What the kernel's host lines before the region put into the region's two input arrays: lane `j` of an image, for every
  `j` below 6000, holds the anchor and the scaled delta of the image's `j`-th ranked box.
-/
module

public import proofs.«01_k».proof.Proof.KernelTail
public import proofs.«01_k».proof.Proof.Inputs
public import Idealize.ShloMosaic.Lib.KernelVsHost
public import Idealize.ShloMosaic.Lib.ValueLayout

@[expose] public section

set_option maxRecDepth 16384

noncomputable section

namespace Cert.KernelIdeal.Own

open Cert.KernelIdeal Cert.KernelIdeal.Gen Cert.Rows Cert.Inputs Idealize.ShloMosaic.Routing
open Idealize.ShloMosaic Idealize.ShloMosaic.TcCoe Idealize.ShloMosaic.Tactic Idealize.ShloMosaic.StableHlo
open Idealize.ShloMosaic.ValueIdx (ix2 ix3 ix1)

/-- The side conditions of ranking, from the program's. -/
theorem rankFacts : RankFacts where
  slice := slices_S2x261888x2_S2x261888x1_0_0_1
  cast := shapeCasts_S2x261888x1_S2x261888
  fits := sliceFits_S2x261888_S2x6000
  lane := bcast_S2x6000_S2x6000x1_0_1
  flat := shapeCasts_S4_S1x1x4
  take :=
    { bSi := bcast_S_S2x6000x1
      bLane := bcast_S2x6000_S2x6000x1_0_1
      b1 := bcast_S1_S1x1x1_2
      b111 := bcast_S1x1x1_S2x6000x1_0_1_2
      red := reducesTo_S2x6000x1_S2x6000_d2
      hu := h_S_
      bOut := bcast_S2x6000_S2x6000x4_0_1
      bNan := bcast_S_S2x6000x4
      wf := gather_S2x261888x4_S2x6000x1_S2x6000x4_2_1_0_0_1_2_114_wf }

/-- What the stretch `hostOps0` writes, -/
abbrev P0 : List (Ref sig .tc) := [main_cst, main_v0, main_v1, main_values, main_indices, main_v2]
/-- and that it writes nothing else. -/
theorem writesP0 : (hostOps0 : List (HloOp τ sig (Elt Ideal))).Forall fun op => op.writes ⊆ (P0.map (Proc.devRef (τ := τ) .tc)).toFinset :=
  StableHlo.forall_writes_sub_of_map rfl
/-- What the stretch `hostOps0_1` writes, -/
abbrev P1 : List (Ref sig .tc) := [main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_cst, main_call0_v14, main_v3]
/-- and that it writes nothing else. -/
theorem writesP1 : (hostOps0_1 : List (HloOp τ sig (Elt Ideal))).Forall fun op => op.writes ⊆ (P1.map (Proc.devRef (τ := τ) .tc)).toFinset :=
  StableHlo.forall_writes_sub_of_map rfl
/-- What the stretch `hostOps0_2` writes, -/
abbrev P2 : List (Ref sig .tc) := [main_v4, main_v5, main_v6, main_v7]
/-- and that it writes nothing else. -/
theorem writesP2 : (hostOps0_2 : List (HloOp τ sig (Elt Ideal))).Forall fun op => op.writes ⊆ (P2.map (Proc.devRef (τ := τ) .tc)).toFinset :=
  StableHlo.forall_writes_sub_of_map rfl
/-- What the stretch `hostOps0_3` writes, -/
abbrev P3 : List (Ref sig .tc) := [main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v8]
/-- and that it writes nothing else. -/
theorem writesP3 : (hostOps0_3 : List (HloOp τ sig (Elt Ideal))).Forall fun op => op.writes ⊆ (P3.map (Proc.devRef (τ := τ) .tc)).toFinset :=
  StableHlo.forall_writes_sub_of_map rfl
/-- What the stretch `hostOps0_4` writes, -/
abbrev P4 : List (Ref sig .tc) := [main_c]
/-- and that it writes nothing else. -/
theorem writesP4 : (hostOps0_4 : List (HloOp τ sig (Elt Ideal))).Forall fun op => op.writes ⊆ (P4.map (Proc.devRef (τ := τ) .tc)).toFinset :=
  StableHlo.forall_writes_sub_of_map rfl
/-- What the stretch `hostOps0_5` writes, -/
abbrev P5 : List (Ref sig .tc) := [main_call2_v0, main_v9]
/-- and that it writes nothing else. -/
theorem writesP5 : (hostOps0_5 : List (HloOp τ sig (Elt Ideal))).Forall fun op => op.writes ⊆ (P5.map (Proc.devRef (τ := τ) .tc)).toFinset :=
  StableHlo.forall_writes_sub_of_map rfl
/-- What the stretch `hostOps0_6` writes, -/
abbrev P6 : List (Ref sig .tc) := [main_c_0]
/-- and that it writes nothing else. -/
theorem writesP6 : (hostOps0_6 : List (HloOp τ sig (Elt Ideal))).Forall fun op => op.writes ⊆ (P6.map (Proc.devRef (τ := τ) .tc)).toFinset :=
  StableHlo.forall_writes_sub_of_map rfl
/-- What the stretch `hostOps0_7` writes, -/
abbrev P7 : List (Ref sig .tc) := [main_call3_v0, main_v10]
/-- and that it writes nothing else. -/
theorem writesP7 : (hostOps0_7 : List (HloOp τ sig (Elt Ideal))).Forall fun op => op.writes ⊆ (P7.map (Proc.devRef (τ := τ) .tc)).toFinset :=
  StableHlo.forall_writes_sub_of_map rfl
/-- What the stretch `hostOps0_8` writes, -/
abbrev P8 : List (Ref sig .tc) := [main_v11, main_v12]
/-- and that it writes nothing else. -/
theorem writesP8 : (hostOps0_8 : List (HloOp τ sig (Elt Ideal))).Forall fun op => op.writes ⊆ (P8.map (Proc.devRef (τ := τ) .tc)).toFinset :=
  StableHlo.forall_writes_sub_of_map rfl

attribute [local irreducible] Host.reduceWindow Host.reduce Host.scatter Host.gather Host.topK pad

variable (V : Valuation τ sig (Elt Ideal))

/-- The scales as the program prints them. -/
def scales : FVec Ideal S4 .f32 := fun i => FloatOps.ofBits .f32 (lit0 (S4.rowMajor i))

/-- The rows taken at a lane of index words. -/
def takenAt (x : FVec Ideal S2x261888x4 .f32) (i : IVec S2x6000x1 32) : FVec Ideal S2x6000x4 .f32 :=
  takeFrom rankFacts.take 261887#32 x (wrapIdx rankFacts.take.bSi 261888#32 i)

/-- The rows with the padding rows added, laid out lane by lane. -/
def padded (x : FVec Ideal S2x6000x4 .f32) (v : FVec Ideal S_ .f32) : FVec Ideal S2x6144x4 .f32 :=
  pad S2x6144x4 ![0, 0, 0] ![0, 144, 0] ![0, 0, 0] x v pads_S2x6000x4_S2x6144x4_000_01440_000 h_S_

theorem pre0_cst : rd (after hostOps0 V) main_cst = scales := by
  unfold rd
  after_results
  rfl
theorem pre0_indices : rd (after hostOps0 V) main_indices = rankWords rankFacts (rd V main_arg0) := by
  unfold rd
  after_results
  rfl
theorem pre0_v2 : rd (after hostOps0 V) main_v2
    = broadcastInDim S2x6000x1 ![0, 1] bcast_S2x6000_S2x6000x1_0_1 (rankWords rankFacts (rd V main_arg0)) := by
  unfold rd
  after_results
  rfl
theorem pre1 : rd (after hostOps0_1 V) main_v3 = takenAt (rd V main_arg1) (rd V main_v2) := by
  unfold rd
  after_results
  rfl
theorem pre2_v6 : rd (after hostOps0_2 V) main_v6 = mulf (F := Ideal) (s := S2x6000x4) (φ := .f32) (rd V main_v3)
    (broadcastInDim S2x6000x4 ![0, 1, 2] bcast_S1x1x4_S2x6000x4_0_1_2 (shapeCast S1x1x4 (rd V main_cst) shapeCasts_S4_S1x1x4)) := by
  unfold rd
  after_results
  rfl
theorem pre2_v7 : rd (after hostOps0_2 V) main_v7
    = broadcastInDim S2x6000x1 ![0, 1] bcast_S2x6000_S2x6000x1_0_1 (rd V main_indices) := by
  unfold rd
  after_results
theorem pre3 : rd (after hostOps0_3 V) main_v8 = takenAt (rd V main_arg2) (rd V main_v7) := by
  unfold rd
  after_results
  rfl
theorem pre5 : rd (after hostOps0_5 V) main_v9 = padded (rd V main_v6) (sitofp (F := Ideal) (s := S_) .f32 (rd V main_c)) := by
  unfold rd
  after_results
  rfl
theorem pre7 : rd (after hostOps0_7 V) main_v10 = padded (rd V main_v8) (sitofp (F := Ideal) (s := S_) .f32 (rd V main_c_0)) := by
  unfold rd
  after_results
  rfl
theorem pre8_v11 : rd (after hostOps0_8 V) main_v11
    = transpose S2x4x6144 [0, 2, 1] (rd V main_v10) transposes_S2x6144x4_S2x4x6144_0_2_1 := by
  unfold rd
  after_results
theorem pre8_v12 : rd (after hostOps0_8 V) main_v12
    = transpose S2x4x6144 [0, 2, 1] (rd V main_v9) transposes_S2x6144x4_S2x4x6144_0_2_1 := by
  unfold rd
  after_results

/-- The stretches before the region. -/
def preOps : List (List (HloOp τ sig (Elt Ideal))) :=
  [hostOps0, hostOps0_1, hostOps0_2, hostOps0_3, hostOps0_4, hostOps0_5, hostOps0_6, hostOps0_7, hostOps0_8]

/-- The anchors' array when the region is entered, -/
theorem pre_v11 : ∃ v, rd (afterL preOps V) main_v11 = transpose S2x4x6144 [0, 2, 1]
    (padded (ranked rankFacts (rd V main_arg0) (rd V main_arg2)) v) transposes_S2x6144x4_S2x4x6144_0_2_1 := by
  unfold preOps
  simp only [afterL_cons, afterL_nil]
  rw [pre8_v11, pre7]
  rw [rd_keep _ writesP6 (b := main_v8) (by decide), rd_keep _ writesP5 (b := main_v8) (by decide),
    rd_keep _ writesP4 (b := main_v8) (by decide), pre3, pre2_v7]
  rw [rd_keep _ writesP2 (b := main_arg2) (by decide), rd_keep _ writesP1 (b := main_arg2) (by decide),
    rd_keep _ writesP0 (b := main_arg2) (by decide), rd_keep _ writesP1 (b := main_indices) (by decide), pre0_indices]
  exact ⟨_, rfl⟩

/-- and the deltas'. -/
theorem pre_v12 : ∃ v, rd (afterL preOps V) main_v12 = transpose S2x4x6144 [0, 2, 1]
    (padded (mulf (F := Ideal) (s := S2x6000x4) (φ := .f32) (ranked rankFacts (rd V main_arg0) (rd V main_arg1))
      (broadcastInDim S2x6000x4 ![0, 1, 2] bcast_S1x1x4_S2x6000x4_0_1_2 (shapeCast S1x1x4 scales shapeCasts_S4_S1x1x4))) v)
    transposes_S2x6144x4_S2x4x6144_0_2_1 := by
  unfold preOps
  simp only [afterL_cons, afterL_nil]
  rw [pre8_v12]
  rw [rd_keep _ writesP7 (b := main_v9) (by decide), rd_keep _ writesP6 (b := main_v9) (by decide), pre5]
  rw [rd_keep _ writesP4 (b := main_v6) (by decide), rd_keep _ writesP3 (b := main_v6) (by decide), pre2_v6, pre1, pre0_v2]
  rw [rd_keep _ writesP0 (b := main_arg1) (by decide), rd_keep _ writesP1 (b := main_cst) (by decide), pre0_cst]
  exact ⟨_, rfl⟩

/-- A row below 6000 of the padded rows is that row. -/
theorem padded_apply (x : FVec Ideal S2x6000x4 .f32) (v : FVec Ideal S_ .f32) (b : Fin 2) (j : Fin 6144) (c : Fin 4)
    (hj : j.val < 6000) : padded x v (ix3 b j c) = x (ix3 b (⟨j.val, hj⟩ : Fin 6000) c) := by
  unfold padded
  refine pad_apply_of_inside _ _ _ _ _ _ _ _ (ix3 b (⟨j.val, hj⟩ : Fin 6000) c) fun a => ?_
  match a with
  | ⟨0, _⟩ => show b.val = 0 + b.val * (0 + 1); omega
  | ⟨1, _⟩ => show j.val = 0 + j.val * (0 + 1); omega
  | ⟨2, _⟩ => show c.val = 0 + c.val * (0 + 1); omega

/-- Lane `j` of the anchors' array is the anchor of ranked box `j`, -/
theorem v11_apply (b : Fin 2) (j : Fin 6144) (c : Fin 4) (hj : j.val < 6000) :
    (rd (afterL preOps V) main_v11 : FVec Ideal S2x4x6144 .f32) (ix3 b c j)
      = anchor rankFacts (rd V main_arg0) (rd V main_arg2) b ⟨j.val, hj⟩ c := by
  obtain ⟨v, h⟩ := pre_v11 V
  refine (congrFun h _).trans ?_
  refine (ValueIdx.transpose_ix3_021_apply _ _ b c j).trans ?_
  refine (padded_apply _ v b j c hj).trans ?_
  exact ranked_apply _ _ _ b ⟨j.val, hj⟩ c

/-- and lane `j` of the deltas' its scaled delta. -/
theorem v12_apply (b : Fin 2) (j : Fin 6144) (c : Fin 4) (hj : j.val < 6000) :
    (rd (afterL preOps V) main_v12 : FVec Ideal S2x4x6144 .f32) (ix3 b c j)
      = delta rankFacts (rd V main_arg0) (rd V main_arg1) b ⟨j.val, hj⟩ c := by
  obtain ⟨v, h⟩ := pre_v12 V
  refine (congrFun h _).trans ?_
  refine (ValueIdx.transpose_ix3_021_apply _ _ b c j).trans ?_
  refine (padded_apply _ v b j c hj).trans ?_
  refine congrArg₂ (fun p q : EReal => p * q) (ranked_apply _ _ _ b ⟨j.val, hj⟩ c) ?_
  exact std_apply lit0 ⟨rfl, rfl, rfl, rfl⟩ _ _ rfl b ⟨j.val, hj⟩ c

end Cert.KernelIdeal.Own

end
-- ==== Proof.KernelBoxes.lean ====
/-
  The kernel body's boxes: what each lane of the box block holds, and what the masked sums of the loop read.
-/
module

public import proofs.«01_k».proof.Proof.KernelIdealRun
public import proofs.«01_k».proof.Proof.Boxes
public import Idealize.ShloMosaic.Lib.ValueLayout
public import Idealize.ShloMosaic.Lib.WordCmp

@[expose] public section

set_option maxRecDepth 16384

noncomputable section

namespace Cert.KernelIdeal.Own

open Cert.KernelIdeal Cert.KernelIdeal.Gen Cert.Boxes
open Idealize.ShloMosaic Idealize.ShloMosaic.Routing Idealize.ShloMosaic.WordCmp
open Idealize.ShloMosaic.ValueIdx (ix2 ix3 shapeCast_1ab_ab_apply shapeCast_ab_1ab_apply)

/-- An entry of a block of columns: column `c` of box `j`. -/
abbrev col (x : Vec Ideal S1x4x6144 .f32) (j : Fin 6144) (c : Fin 4) : EReal := x (ix3 (0 : Fin 1) c j)

/-- Row `r` of a four-row block, as a one-row block. -/
theorem row_apply (o : Nat) (x : Vec Ideal S4x6144 .f32) (h : S4x6144.Slices ![o, 0] S1x6144) (r : Fin 4) (hr : r.val = o)
    (j : Fin 6144) : extractStridedSlice S1x6144 ![o, 0] x h (ix2 (0 : Fin 1) j) = x (ix2 r j) := by
  refine extractStridedSlice_apply _ x h _ _ fun a => ?_
  match a with
  | ⟨0, _⟩ => exact hr
  | ⟨1, _⟩ => exact (Nat.zero_add _).symm

theorem pay12_apply (a : Vec Ideal S1x4x6144 .f32) (r : Fin 4) (j : Fin 6144) : k0_pay12 a (ix2 r j) = col a j r :=
  shapeCast_1ab_ab_apply (a := 4) (b := 6144) a _ r j

theorem pay13_apply (a : Vec Ideal S1x4x6144 .f32) (r : Fin 4) (j : Fin 6144) : k0_pay13 a (ix2 r j) = col a j r :=
  shapeCast_1ab_ab_apply (a := 4) (b := 6144) a _ r j

theorem pay14_apply (a : Vec Ideal S1x4x6144 .f32) (j : Fin 6144) : k0_pay14 a (ix2 (0 : Fin 1) j) = col a j 0 := by
  unfold k0_pay14
  exact (row_apply 0 _ _ 0 rfl j).trans (pay12_apply a 0 j)

theorem pay15_apply (a : Vec Ideal S1x4x6144 .f32) (j : Fin 6144) : k0_pay15 a (ix2 (0 : Fin 1) j) = col a j 1 := by
  unfold k0_pay15
  exact (row_apply 1 _ _ 1 rfl j).trans (pay12_apply a 1 j)

theorem pay16_apply (a : Vec Ideal S1x4x6144 .f32) (j : Fin 6144) :
    k0_pay16 a (ix2 (0 : Fin 1) j) = col a j 2 - col a j 0 := by
  unfold k0_pay16
  rw [ValueIdx.subf_apply, pay14_apply, row_apply 2 _ _ 2 rfl j, pay12_apply]

theorem pay17_apply (a : Vec Ideal S1x4x6144 .f32) (j : Fin 6144) :
    k0_pay17 a (ix2 (0 : Fin 1) j) = col a j 3 - col a j 1 := by
  unfold k0_pay17
  rw [ValueIdx.subf_apply, pay15_apply, row_apply 3 _ _ 3 rfl j, pay12_apply]

/-- The centres along the first axis. -/
theorem pay18_apply (a d : Vec Ideal S1x4x6144 .f32) (j : Fin 6144) :
    k0_pay18 a d (ix2 (0 : Fin 1) j) = centre (col d j 0) (col a j 0) (col a j 2) := by
  unfold k0_pay18
  rw [ValueIdx.addf_apply, ValueIdx.addf_apply, ValueIdx.mulf_apply, ValueIdx.mulf_apply, pay14_apply, pay16_apply,
    row_apply 0 _ _ 0 rfl j, pay13_apply]
  rfl

/-- The centres along the second axis. -/
theorem pay19_apply (a d : Vec Ideal S1x4x6144 .f32) (j : Fin 6144) :
    k0_pay19 a d (ix2 (0 : Fin 1) j) = centre (col d j 1) (col a j 1) (col a j 3) := by
  unfold k0_pay19
  rw [ValueIdx.addf_apply, ValueIdx.addf_apply, ValueIdx.mulf_apply, ValueIdx.mulf_apply, pay15_apply, pay17_apply,
    row_apply 1 _ _ 1 rfl j, pay13_apply]
  rfl

/-- The decoded extents along the first axis. -/
theorem pay20_apply (a d : Vec Ideal S1x4x6144 .f32) (j : Fin 6144) :
    k0_pay20 a d (ix2 (0 : Fin 1) j) = size (col d j 2) (col a j 0) (col a j 2) := by
  unfold k0_pay20
  rw [ValueIdx.mulf_apply, pay16_apply]
  show _ * Ideal.exp (extractStridedSlice S1x6144 ![2, 0] (k0_pay13 d) _ (ix2 (0 : Fin 1) j)) = _
  rw [row_apply 2 _ _ 2 rfl j, pay13_apply]
  rfl

/-- The decoded extents along the second axis. -/
theorem pay21_apply (a d : Vec Ideal S1x4x6144 .f32) (j : Fin 6144) :
    k0_pay21 a d (ix2 (0 : Fin 1) j) = size (col d j 3) (col a j 1) (col a j 3) := by
  unfold k0_pay21
  rw [ValueIdx.mulf_apply, pay17_apply]
  show _ * Ideal.exp (extractStridedSlice S1x6144 ![3, 0] (k0_pay13 d) _ (ix2 (0 : Fin 1) j)) = _
  rw [row_apply 3 _ _ 3 rfl j, pay13_apply]
  rfl

/-- The box of lane `j`. -/
abbrev laneBox (a d : Vec Ideal S1x4x6144 .f32) (j : Fin 6144) : Fin 4 → EReal := box (col d j) (col a j)

/-- Half the extents along the first axis. -/
theorem pay24_apply (a d : Vec Ideal S1x4x6144 .f32) (j : Fin 6144) :
    k0_pay24 a d (ix2 (0 : Fin 1) j) = lit 0x3F000000#32 * size (col d j 2) (col a j 0) (col a j 2) := by
  unfold k0_pay24
  rw [ValueIdx.mulf_apply, pay20_apply]
  rfl

theorem pay22_apply (a d : Vec Ideal S1x4x6144 .f32) (j : Fin 6144) : k0_pay22 a d (ix2 (0 : Fin 1) j) = laneBox a d j 0 := by
  unfold k0_pay22
  rw [ValueIdx.minimumf_apply, ValueIdx.maximumf_apply, ValueIdx.subf_apply, pay18_apply, ValueIdx.mulf_apply, pay20_apply]
  rfl

theorem pay23_apply (a d : Vec Ideal S1x4x6144 .f32) (j : Fin 6144) : k0_pay23 a d (ix2 (0 : Fin 1) j) = laneBox a d j 1 := by
  unfold k0_pay23
  rw [ValueIdx.minimumf_apply, ValueIdx.maximumf_apply, ValueIdx.subf_apply, pay19_apply, ValueIdx.mulf_apply, pay21_apply]
  rfl

theorem pay1_apply (a d : Vec Ideal S1x4x6144 .f32) (j : Fin 6144) :
    k0_pay1 (k0_pay18 a d) (k0_pay24 a d) (ix2 (0 : Fin 1) j) = laneBox a d j 2 := by
  unfold k0_pay1
  rw [ValueIdx.minimumf_apply, ValueIdx.maximumf_apply, ValueIdx.addf_apply, pay18_apply, pay24_apply]
  rfl

theorem pay2_apply (a d : Vec Ideal S1x4x6144 .f32) (j : Fin 6144) :
    k0_pay2 (k0_pay19 a d) (k0_pay21 a d) (ix2 (0 : Fin 1) j) = laneBox a d j 3 := by
  unfold k0_pay2
  rw [ValueIdx.minimumf_apply, ValueIdx.maximumf_apply, ValueIdx.addf_apply, pay19_apply, ValueIdx.mulf_apply, pay21_apply]
  rfl

theorem pay3_apply (a d : Vec Ideal S1x4x6144 .f32) (j : Fin 6144) :
    k0_pay3 (k0_pay18 a d) (k0_pay19 a d) (k0_pay21 a d) (k0_pay22 a d) (k0_pay23 a d) (k0_pay24 a d) (ix2 (0 : Fin 1) j)
      = area (laneBox a d j) := by
  unfold k0_pay3
  rw [ValueIdx.mulf_apply, ValueIdx.subf_apply, ValueIdx.subf_apply, pay1_apply, pay2_apply, pay22_apply, pay23_apply]
  rfl

/-- A stack of four rows, read at row `c`. -/
theorem stack_apply (x0 x1 x2 x3 : FVec Ideal S1x6144 .f32)
    (h : Shape.Concatenates [S1x6144, S1x6144, S1x6144, S1x6144] S4x6144 0) (c : Fin 4) (j : Fin 6144) :
    concatenate S4x6144 0 [⟨S1x6144, x0⟩, ⟨S1x6144, x1⟩, ⟨S1x6144, x2⟩, ⟨S1x6144, x3⟩] h (ix2 c j)
      = (![x0, x1, x2, x3] c) (ix2 (0 : Fin 1) j) := by
  have side : ∀ (c : Fin 4) (b : Fin S1x6144.rank), b.cast (show S1x6144.rank = S4x6144.rank from rfl) ≠ (0 : Fin 2) →
      ((ix2 (0 : Fin 1) j : S1x6144.Idx) b).val = ((ix2 c j : S4x6144.Idx) (b.cast rfl)).val := by
    intro c b hb
    match b with
    | ⟨0, _⟩ => exact absurd rfl hb
    | ⟨1, _⟩ => rfl
  let xs : List ((s : Shape) × (s.Idx → Ideal .f32)) := [⟨S1x6144, x0⟩, ⟨S1x6144, x1⟩, ⟨S1x6144, x2⟩, ⟨S1x6144, x3⟩]
  match c with
  | ⟨0, _⟩ => exact concatenate_apply_piece (t := S4x6144) 0 xs h _ 0 (by show 0 < 4; decide) S1x6144 x0 rfl rfl 0 rfl (ix2 (0 : Fin 1) j) (side _) rfl
  | ⟨1, _⟩ => exact concatenate_apply_piece (t := S4x6144) 0 xs h _ 1 (by show 1 < 4; decide) S1x6144 x1 rfl rfl 1 rfl (ix2 (0 : Fin 1) j) (side _) rfl
  | ⟨2, _⟩ => exact concatenate_apply_piece (t := S4x6144) 0 xs h _ 2 (by show 2 < 4; decide) S1x6144 x2 rfl rfl 2 rfl (ix2 (0 : Fin 1) j) (side _) rfl
  | ⟨3, _⟩ => exact concatenate_apply_piece (t := S4x6144) 0 xs h _ 3 (by show 3 < 4; decide) S1x6144 x3 rfl rfl 3 rfl (ix2 (0 : Fin 1) j) (side _) rfl

/-- The box block holds lane `j`'s box in column `j`. -/
theorem boxPay_apply (a d : Vec Ideal S1x4x6144 .f32) (c : Fin 4) (j : Fin 6144) :
    boxPay a d (ix3 (0 : Fin 1) c j) = laneBox a d j c := by
  unfold boxPay k0_pay4
  refine (shapeCast_ab_1ab_apply (a := 4) (b := 6144) _ _ (0 : Fin 1) c j).trans ?_
  refine (stack_apply _ _ _ _ _ c j).trans ?_
  match c with
  | ⟨0, _⟩ => exact pay22_apply a d j
  | ⟨1, _⟩ => exact pay23_apply a d j
  | ⟨2, _⟩ => exact pay1_apply a d j
  | ⟨3, _⟩ => exact pay2_apply a d j

/-! ## Reading one lane by a masked sum -/

/-- The loop's counter at trip `k`. -/
theorem iv_eq (k : Nat) : Scf.iv 0#32 1#32 k = BitVec.ofNat 32 k := by
  unfold Scf.iv
  rw [BitVec.mul_one, BitVec.zero_add]

/-- The lane numbers. -/
abbrev lanes : IVec S1x6144 32 := iota .tc S1x6144 32 [1] iota_S1x6144_d1_w32

theorem lanes_apply (j : Fin 6144) : lanes (ix2 (0 : Fin 1) j) = BitVec.ofNat 32 j.val :=
  iota_single_apply .tc S1x6144 32 1 _ _

/-- A flag widened and converted is one or zero. -/
theorem flag_value (p : Bool) : (FloatOps.sitofp .f32 ((BitVec.ofBool p).setWidth 32) : Ideal .f32) = if p then (1 : EReal) else 0 := by
  show ((((BitVec.ofBool p).setWidth 32).toInt : ℝ) : EReal) = _
  cases p
  · have : ((BitVec.ofBool false).setWidth 32).toInt = 0 := by decide
    rw [this]; simp
  · have : ((BitVec.ofBool true).setWidth 32).toInt = 1 := by decide
    rw [this]; simp

/-- The mask of trip `k` is one at lane `k` and zero elsewhere. -/
theorem pay8_apply (k : Fin k0_t1_loop.trips) (hk : k.val < 6144) (j : Fin 6144) :
    k0_pay8 (F := Ideal) lanes 0#32 1#32 k (ix2 (0 : Fin 1) j) = if j.val = k.val then (1 : EReal) else 0 := by
  unfold k0_pay8
  refine Eq.trans (b := FloatOps.sitofp .f32
    ((IntOp.cmpi .eq (lanes (ix2 (0 : Fin 1) j)) (Scf.iv 0#32 1#32 k.val)).setWidth 32)) rfl ?_
  rw [lanes_apply, iv_eq, cmpi_eq_ofNat (w := 32) (by have := j.isLt; omega) (by omega), flag_value]
  simp only [decide_eq_true_eq]

/-- The masked sum of a row reads it at lane `k`. -/
theorem pick (x : FVec Ideal S1x6144 .f32) (k : Fin k0_t1_loop.trips) (hk : k.val < 6144)
    (h1 : S1x6144.ShapeCasts S1x1x6144) (h2 : S1x1x6144.Reduces [1, 2] S1) (h3 : FKind.Formats .f32)
    (h4 : (0x00000000#32 : BitVec 32) = FKind.add.neutral .f32 h3) (h5 : S1.ShapeCasts S1x1x1) (h6) :
    extractAt ![0, 0, 0] (shapeCast S1x1x1 (multiReduction .add [1, 2] S1
      (shapeCast S1x1x6144 (mulf x (k0_pay8 (F := Ideal) lanes 0#32 1#32 k)) h1) 0x00000000#32 h2 h3 h4) h5) h6
      = x (ix2 (0 : Fin 1) ⟨k.val, hk⟩) := by
  unfold extractAt shapeCast
  rw [Ideal.multiReduction_add_total _ _ _ (by decide)]
  have hz : ∀ i : S1x1x6144.Idx,
      shapeCast S1x1x6144 (mulf x (k0_pay8 (F := Ideal) lanes 0#32 1#32 k)) h1 i
        = x (ix2 (0 : Fin 1) (i 2)) * (if (i 2).val = k.val then (1 : EReal) else 0) := by
    intro i
    have hi : i = ix3 (0 : Fin 1) (0 : Fin 1) (i 2) := by
      funext a
      match a with
      | ⟨0, _⟩ => exact Fin.ext (by have : (i 0).val < 1 := (i 0).isLt; show (i 0).val = 0; omega)
      | ⟨1, _⟩ => exact Fin.ext (by have : (i 1).val < 1 := (i 1).isLt; show (i 1).val = 0; omega)
      | ⟨2, _⟩ => rfl
    conv_lhs => rw [hi]
    refine (shapeCast_ab_1ab_apply (a := 1) (b := 6144) _ _ (0 : Fin 1) (0 : Fin 1) (i 2)).trans ?_
    exact congrArg (x (ix2 (0 : Fin 1) (i 2)) * ·) (pay8_apply k hk (i 2))
  refine (Finset.sum_eq_single (ix3 (0 : Fin 1) (0 : Fin 1) (⟨k.val, hk⟩ : Fin 6144)) ?_ ?_).trans ?_
  · intro i _ hi
    refine (hz i).trans ?_
    rw [if_neg, mul_zero]
    intro he
    refine hi (funext fun a => ?_)
    match a with
    | ⟨0, _⟩ => exact Fin.ext (by have : (i 0).val < 1 := (i 0).isLt; show (i 0).val = 0; omega)
    | ⟨1, _⟩ => exact Fin.ext (by have : (i 1).val < 1 := (i 1).isLt; show (i 1).val = 0; omega)
    | ⟨2, _⟩ => exact Fin.ext he
  · intro h
    exact absurd (Finset.mem_univ _) h
  · refine (hz _).trans ?_
    rw [if_pos rfl, mul_one]

end Cert.KernelIdeal.Own

end
-- ==== Proof.KernelKeep.lean ====
/-
  The kernel's suppression loop: after trip `k` the carried lanes are the keep flags of the greedy suppression after `k`
  steps, as ones and zeros.
-/
module

public import proofs.«01_k».proof.Proof.KernelBoxes

@[expose] public section

set_option maxRecDepth 16384

noncomputable section

namespace Cert.KernelIdeal.Own

open Cert.KernelIdeal Cert.KernelIdeal.Gen Cert.Boxes
open Idealize.ShloMosaic Idealize.ShloMosaic.Routing Idealize.ShloMosaic.WordCmp
open Idealize.ShloMosaic.ValueIdx (ix2 ix3 shapeCast_1ab_ab_apply shapeCast_ab_1ab_apply)

/-- What holds before the first trip and is carried by every trip holds after a left fold over the trips. -/
theorem foldl_inv {σ : Type} : ∀ (n : Nat) (g : Fin n → σ → σ) (init : σ) (P : Nat → σ → Prop), P 0 init →
    (∀ (k : Fin n) (acc : σ), P k.val acc → P (k.val + 1) (g k acc)) →
    P n ((List.finRange n).foldl (fun acc k => g k acc) init)
  | 0, g, init, P, h0, hs => h0
  | n + 1, g, init, P, h0, hs => by
      rw [List.finRange_succ_last, List.foldl_append, List.foldl_map]
      exact hs (Fin.last n) _ (foldl_inv n (fun k acc => g k.castSucc acc) init P h0 fun k acc h => hs k.castSucc acc h)

/-- What holds before the first trip and is carried by every trip holds after the loop. -/
theorem fold_inv {σ : Type} {n : Nat} (g : Fin n → σ → σ) (init : σ) (P : Nat → σ → Prop) (h0 : P 0 init)
    (hs : ∀ (k : Fin n) (acc : σ), P k.val acc → P (k.val + 1) (g k acc)) : P n (Scf.fold g init) := by
  rw [Scf.fold_eq]
  exact foldl_inv n g init P h0 hs

/-- The number of trips. -/
theorem trips_eq : k0_t1_loop.trips = 6000 := by decide

/-- One or zero. -/
def bitVal (p : Bool) : EReal := if p then 1 else 0

/-- A flag is set exactly when its value exceeds one half. -/
theorem half_lt_bitVal (p : Bool) : decide (lit 0x3F000000#32 < bitVal p) = p := by
  rw [lit_half]
  cases p
  · refine decide_eq_false ?_
    unfold bitVal
    rw [if_neg (by decide), not_lt]
    exact_mod_cast (by norm_num : (0 : ℝ) ≤ 1 / 2)
  · refine decide_eq_true ?_
    unfold bitVal
    rw [if_pos rfl]
    exact_mod_cast (by norm_num : (1 : ℝ) / 2 < 1)

/-- The initial lanes: one on the ranked boxes, zero on the padding. -/
theorem pay5_apply (j : Fin 6144) : k0_pay5 (F := Ideal) (ix2 (0 : Fin 1) j) = bitVal (decide (j.val < 6000)) := by
  unfold k0_pay5
  refine Eq.trans (b := FloatOps.sitofp .f32 ((IntOp.cmpi .slt (lanes (ix2 (0 : Fin 1) j)) 6000#32).setWidth 32)) rfl ?_
  rw [lanes_apply, cmpi_slt_ofNat (w := 32) (by have := j.isLt; omega) (by omega), flag_value]
  rfl

/-- The masked sum of a row at trip `k` is its lane `k`. -/
theorem pay9_apply (x : FVec Ideal S1x6144 .f32) (k : Fin k0_t1_loop.trips) (hk : k.val < 6144) :
    k0_pay9 lanes 0#32 1#32 k x = x (ix2 (0 : Fin 1) ⟨k.val, hk⟩) := by
  unfold k0_pay9
  exact pick x k hk _ _ _ _ _ _

variable (bx : Nat → Fin 4 → EReal) (y1 x1 y2 x2 ar : FVec Ideal S1x6144 .f32)

/-- The rows hold the boxes `bx` and their areas. -/
structure Holds : Prop where
  y1 : ∀ j : Fin 6144, y1 (ix2 (0 : Fin 1) j) = bx j.val 0
  x1 : ∀ j : Fin 6144, x1 (ix2 (0 : Fin 1) j) = bx j.val 1
  y2 : ∀ j : Fin 6144, y2 (ix2 (0 : Fin 1) j) = bx j.val 2
  x2 : ∀ j : Fin 6144, x2 (ix2 (0 : Fin 1) j) = bx j.val 3
  ar : ∀ j : Fin 6144, ar (ix2 (0 : Fin 1) j) = area (bx j.val)

variable {bx y1 x1 y2 x2 ar} (H : Holds bx y1 x1 y2 x2 ar)
include H

/-- The area each lane's box shares with box `k`. -/
theorem pay10_apply (k : Fin k0_t1_loop.trips) (hk : k.val < 6144) (j : Fin 6144) :
    k0_pay10 y1 x1 y2 x2 lanes 0#32 1#32 k (ix2 (0 : Fin 1) j) = inter (bx k.val) (bx j.val) := by
  refine Eq.trans (b := max (min (k0_pay9 lanes 0#32 1#32 k y2) (y2 (ix2 (0 : Fin 1) j)) - max (k0_pay9 lanes 0#32 1#32 k y1) (y1 (ix2 (0 : Fin 1) j)))
      (lit 0x00000000#32) * max (min (k0_pay9 lanes 0#32 1#32 k x2) (x2 (ix2 (0 : Fin 1) j)) - max (k0_pay9 lanes 0#32 1#32 k x1) (x1 (ix2 (0 : Fin 1) j)))
      (lit 0x00000000#32)) rfl ?_
  rw [pay9_apply y1 k hk, pay9_apply y2 k hk, pay9_apply x1 k hk, pay9_apply x2 k hk, H.y1, H.x1, H.y2, H.x2, H.y1, H.x1, H.y2, H.x2]
  rfl

/-- The sum of each lane's area and box `k`'s. -/
theorem pay11_apply (k : Fin k0_t1_loop.trips) (hk : k.val < 6144) (j : Fin 6144) :
    k0_pay11 ar lanes 0#32 1#32 k (ix2 (0 : Fin 1) j) = area (bx k.val) + area (bx j.val) := by
  refine Eq.trans (b := k0_pay9 lanes 0#32 1#32 k ar + ar (ix2 (0 : Fin 1) j)) rfl ?_
  rw [pay9_apply ar k hk, H.ar, H.ar]

/-- One trip carries the flags after `k` steps to the flags after `k + 1`. -/
theorem trip_apply (k : Fin k0_t1_loop.trips) (acc : FVec Ideal S1x6144 .f32)
    (hacc : ∀ j : Fin 6144, acc (ix2 (0 : Fin 1) j) = bitVal (keep bx k.val j.val)) (j : Fin 6144) :
    trip y1 x1 y2 x2 ar lanes k acc (ix2 (0 : Fin 1) j) = bitVal (keep bx (k.val + 1) j.val) := by
  have hk : k.val < 6144 := lt_of_lt_of_le k.isLt (by rw [trips_eq]; decide)
  have h9 : k0_pay9 lanes 0#32 1#32 k acc = bitVal (keep bx k.val k.val) := (pay9_apply acc k hk).trans (hacc ⟨k.val, hk⟩)
  unfold trip k0_pay6
  refine Eq.trans (b := Scalar.select
    (IntOp.andi (IntOp.andi
      (Ideal.cmp .ogt (Ideal.div (k0_pay10 y1 x1 y2 x2 lanes 0#32 1#32 k (ix2 (0 : Fin 1) j))
        ((k0_pay11 ar lanes 0#32 1#32 k (ix2 (0 : Fin 1) j) - k0_pay10 y1 x1 y2 x2 lanes 0#32 1#32 k (ix2 (0 : Fin 1) j))
          + lit 0x322BCC77#32)) (lit 0x3F333333#32))
      (Ideal.cmp .ogt (k0_pay9 lanes 0#32 1#32 k acc) (lit 0x3F000000#32)))
      (IntOp.cmpi .sgt (lanes (ix2 (0 : Fin 1) j)) (Scf.iv 0#32 1#32 k.val)))
    (lit 0x00000000#32) (acc (ix2 (0 : Fin 1) j))) rfl ?_
  rw [pay10_apply H k hk, pay11_apply H k hk, h9, hacc, lanes_apply, iv_eq,
    cmpi_sgt_ofNat (w := 32) (by have := j.isLt; omega) (by omega)]
  have hs : Ideal.div (inter (bx k.val) (bx j.val)) ((area (bx k.val) + area (bx j.val)) - inter (bx k.val) (bx j.val) + lit 0x322BCC77#32)
      = iou (bx k.val) (bx j.val) := rfl
  rw [hs]
  show Scalar.select (IntOp.andi (IntOp.andi (BitVec.ofBool (decide (lit 0x3F333333#32 < iou (bx k.val) (bx j.val))))
    (BitVec.ofBool (decide (lit 0x3F000000#32 < bitVal (keep bx k.val k.val))))) (BitVec.ofBool (decide (k.val < j.val)))) _ _ = _
  rw [half_lt_bitVal, keep, show lit 0x00000000#32 = 0 from Idealize.ShloMosaic.Ideal.ofBits_zero_f32]
  generalize decide (lit 0x3F333333#32 < iou (bx k.val) (bx j.val)) = p
  generalize keep bx k.val k.val = q
  generalize decide (k.val < j.val) = r
  generalize keep bx k.val j.val = s
  cases p <;> cases q <;> cases r <;> cases s <;> rfl

/-- After the loop the lanes are the final flags. -/
theorem fold_apply (j : Fin 6144) :
    Scf.fold (trip y1 x1 y2 x2 ar lanes) (k0_pay5 (F := Ideal)) (ix2 (0 : Fin 1) j) = bitVal (keep bx 6000 j.val) := by
  have h := fold_inv (trip y1 x1 y2 x2 ar lanes) (k0_pay5 (F := Ideal))
    (fun k acc => ∀ j : Fin 6144, acc (ix2 (0 : Fin 1) j) = bitVal (keep bx k j.val))
    (fun j => pay5_apply j) (fun k acc h => trip_apply H k acc h)
  exact (h j).trans (congrArg (fun n => bitVal (keep bx n j.val)) trips_eq)

omit H

/-- The boxes of a block, numbered. -/
def boxesOf (a d : Vec Ideal S1x4x6144 .f32) (n : Nat) : Fin 4 → EReal :=
  if h : n < 6144 then laneBox a d ⟨n, h⟩ else fun _ => 0

theorem boxesOf_val (a d : Vec Ideal S1x4x6144 .f32) (j : Fin 6144) : boxesOf a d j.val = laneBox a d j := dif_pos j.isLt

/-- The kept-lanes block holds the final flags of the block's boxes. -/
theorem keepPay_apply (a d : Vec Ideal S1x4x6144 .f32) (j : Fin 6144) :
    keepPay a d (ix3 (0 : Fin 1) (0 : Fin 1) j) = bitVal (keep (boxesOf a d) 6000 j.val) := by
  unfold keepPay k0_pay7
  refine (shapeCast_ab_1ab_apply (a := 1) (b := 6144) _ _ (0 : Fin 1) (0 : Fin 1) j).trans ?_
  exact fold_apply (bx := boxesOf a d)
    { y1 := fun j => by rw [boxesOf_val]; exact pay22_apply a d j
      x1 := fun j => by rw [boxesOf_val]; exact pay23_apply a d j
      y2 := fun j => by rw [boxesOf_val]; exact pay1_apply a d j
      x2 := fun j => by rw [boxesOf_val]; exact pay2_apply a d j
      ar := fun j => by rw [boxesOf_val]; exact pay3_apply a d j } j

end Cert.KernelIdeal.Own

end
-- ==== Proof.KernelValue.lean ====
/-
  The value the kernel's run leaves in its result: the two arrays the region writes, image by image, and then the host
  lines after the region.
-/
module

public import proofs.«01_k».proof.Proof.KernelPre
public import proofs.«01_k».proof.Proof.KernelKeep

@[expose] public section

set_option maxRecDepth 16384

noncomputable section

namespace Cert.KernelIdeal.Own

open Cert.KernelIdeal Cert.KernelIdeal.Gen Cert.Rows Cert.Inputs Cert.Boxes
open Idealize.ShloMosaic Idealize.ShloMosaic.TcCoe Idealize.ShloMosaic.StableHlo
open Idealize.ShloMosaic.ValueIdx (ix2 ix3 eq_ix3)
open Idealize.ShloMosaic.Pipeline (Dat)

variable (m : (ℓ : Loc nD τ sig) → Buf (Elt Ideal) ℓ) (ρ : Dev nD → PrngReg) (c : Dev nD)

/-- The grid point that works on image `b`, -/
def point (b : Fin 2) : Fin cfg0.N := ⟨b.val, by have : cfg0.N = 2 := N_0; have := b.isLt; omega⟩
/-- and the image point `t` works on. -/
def image (t : Fin cfg0.N) : Fin 2 := ⟨t.val, by have : cfg0.N = 2 := N_0; have := t.isLt; omega⟩

theorem point_image (t : Fin cfg0.N) : point (image t) = t := rfl

/-- Every window's block at a point is the point's image, whole. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem emb0 (t : Fin cfg0.N) (q : Fin 4) (j : Fin 6144) :
    ((cfg0.win 0).blk t).view.emb (ix3 (0 : Fin 1) q j : S1x4x6144.Idx) = (ix3 (image t) q j : S2x4x6144.Idx) := by
  obtain ⟨⟨e0, e1, e2⟩, -, -, -⟩ := idx_facts t
  funext a; apply Fin.ext
  match a with
  | ⟨0, _⟩ => show win0_0.index t (0 : Fin 3) * 1 + 1 * 0 = t.val; omega
  | ⟨1, _⟩ => show win0_0.index t (1 : Fin 3) * 4 + 1 * q.val = q.val; omega
  | ⟨2, _⟩ => show win0_0.index t (2 : Fin 3) * 6144 + 1 * j.val = j.val; omega

theorem emb1 (t : Fin cfg0.N) (q : Fin 4) (j : Fin 6144) :
    ((cfg0.win 1).blk t).view.emb (ix3 (0 : Fin 1) q j : S1x4x6144.Idx) = (ix3 (image t) q j : S2x4x6144.Idx) := by
  obtain ⟨-, ⟨e0, e1, e2⟩, -, -⟩ := idx_facts t
  funext a; apply Fin.ext
  match a with
  | ⟨0, _⟩ => show win0_1.index t (0 : Fin 3) * 1 + 1 * 0 = t.val; omega
  | ⟨1, _⟩ => show win0_1.index t (1 : Fin 3) * 4 + 1 * q.val = q.val; omega
  | ⟨2, _⟩ => show win0_1.index t (2 : Fin 3) * 6144 + 1 * j.val = j.val; omega

theorem emb2 (t : Fin cfg0.N) (q : Fin 4) (j : Fin 6144) :
    ((cfg0.win 2).blk t).view.emb (ix3 (0 : Fin 1) q j : S1x4x6144.Idx) = (ix3 (image t) q j : S2x4x6144.Idx) := by
  obtain ⟨-, -, ⟨e0, e1, e2⟩, -⟩ := idx_facts t
  funext a; apply Fin.ext
  match a with
  | ⟨0, _⟩ => show win0_2.index t (0 : Fin 3) * 1 + 1 * 0 = t.val; omega
  | ⟨1, _⟩ => show win0_2.index t (1 : Fin 3) * 4 + 1 * q.val = q.val; omega
  | ⟨2, _⟩ => show win0_2.index t (2 : Fin 3) * 6144 + 1 * j.val = j.val; omega

theorem emb3 (t : Fin cfg0.N) (j : Fin 6144) :
    ((cfg0.win 3).blk t).view.emb (ix3 (0 : Fin 1) (0 : Fin 1) j : S1x1x6144.Idx)
      = (ix3 (image t) (0 : Fin 1) j : S2x1x6144.Idx) := by
  obtain ⟨-, -, -, e0, e1, e2⟩ := idx_facts t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 6144 + 1 * j.val = j.val; omega

theorem idx_box (j : S1x4x6144.Idx) : ∃ (q : Fin 4) (l : Fin 6144), j = ix3 (0 : Fin 1) q l := by
  refine ⟨j 1, j 2, (eq_ix3 j).trans ?_⟩
  have h : @Eq (Fin 1) (j 0) 0 := Subsingleton.elim (α := Fin 1) _ _
  exact congrArg (fun z : Fin 1 => (ix3 z (j 1 : Fin 4) (j 2 : Fin 6144) : S1x4x6144.Idx)) h

theorem idx_keep (j : S1x1x6144.Idx) : ∃ l : Fin 6144, j = ix3 (0 : Fin 1) (0 : Fin 1) l := by
  refine ⟨j 2, (eq_ix3 j).trans ?_⟩
  have h : @Eq (Fin 1) (j 0) 0 := Subsingleton.elim (α := Fin 1) _ _
  have h' : @Eq (Fin 1) (j 1) 0 := Subsingleton.elim (α := Fin 1) _ _
  exact congrArg₂ (fun (z w : Fin 1) => (ix3 z w (j 2 : Fin 6144) : S1x1x6144.Idx)) h h'

theorem hz : (![0, 0, 0] : Fin 3 → Nat) = fun _ => 0 := funext fun a => by fin_cases a <;> rfl

theorem outBox_eq (x0 x1 : Vec Ideal S1x4x6144 .f32) : outBox x0 x1 = boxPay x0 x1 := by
  unfold outBox
  rw [View.canon_unit_zero hz, View.ld_unit_zero hz, View.ld_unit_zero hz]

theorem outKeep_eq (x0 x1 : Vec Ideal S1x4x6144 .f32) : outKeep x0 x1 = keepPay x0 x1 := by
  unfold outKeep
  rw [View.canon_unit_zero hz, View.ld_unit_zero hz, View.ld_unit_zero hz]

/-- The boxes the region writes, image by image, -/
def regBoxes : FVec Ideal S2x4x6144 .f32 := fun i =>
  boxPay (iblk m c 0 (point (i 0))) (iblk m c 1 (point (i 0))) (ix3 (0 : Fin 1) (i 1 : Fin 4) (i 2 : Fin 6144))
/-- and its keep flags. -/
def regKeep : FVec Ideal S2x1x6144 .f32 := fun i =>
  keepPay (iblk m c 0 (point (i 0))) (iblk m c 1 (point (i 0))) (ix3 (0 : Fin 1) (0 : Fin 1) (i 2 : Fin 6144))

theorem flushed2_eq (t : Fin cfg0.N) :
    (dats m 0 c).flushed 2 t = ((cfg0.win 2).blk t).view.read (Elt Ideal) (regBoxes m c) := by
  show (cfg0.win 2).cut (grid0.coords t) ((dats m 0 c).after 2 t) = _
  rw [after_2, outBox_eq]
  refine funext fun (j : S1x4x6144.Idx) => ?_
  obtain ⟨q, l, rfl⟩ := idx_box j
  show boxPay (iblk m c 0 t) (iblk m c 1 t) (ix3 (0 : Fin 1) q l) = regBoxes m c (((cfg0.win 2).blk t).view.emb (ix3 (0 : Fin 1) q l : S1x4x6144.Idx))
  rw [emb2]
  rfl

theorem flushed3_eq (t : Fin cfg0.N) :
    (dats m 0 c).flushed 3 t = ((cfg0.win 3).blk t).view.read (Elt Ideal) (regKeep m c) := by
  show (cfg0.win 3).cut (grid0.coords t) ((dats m 0 c).after 3 t) = _
  rw [after_3, outKeep_eq]
  refine funext fun (j : S1x1x6144.Idx) => ?_
  obtain ⟨l, rfl⟩ := idx_keep j
  show keepPay (iblk m c 0 t) (iblk m c 1 t) (ix3 (0 : Fin 1) (0 : Fin 1) l) = regKeep m c (((cfg0.win 3).blk t).view.emb (ix3 (0 : Fin 1) (0 : Fin 1) l : S1x1x6144.Idx))
  rw [emb3]
  rfl

theorem cover2 (i : S2x4x6144.Idx) : ∃ t : Fin cfg0.N, (cfg0.win 2).flush t = true ∧ i ∈ ((cfg0.win 2).blk t).view.set := by
  refine ⟨point (i 0), flush0_2 _, ?_⟩
  have h : ∀ y, ((cfg0.win 2).blk (point (i 0))).view.emb (ix3 (0 : Fin 1) (i 1 : Fin 4) (i 2 : Fin 6144) : S1x4x6144.Idx) = y → y ∈ ((cfg0.win 2).blk (point (i 0))).view.set := by
    rintro _ rfl
    exact ((cfg0.win 2).blk (point (i 0))).view.emb_mem_set _
  have e : i = ix3 (image (point (i 0))) (i 1 : Fin 4) (i 2 : Fin 6144) := eq_ix3 i
  exact h i ((emb2 _ _ _).trans e.symm)

theorem cover3 (i : S2x1x6144.Idx) : ∃ t : Fin cfg0.N, (cfg0.win 3).flush t = true ∧ i ∈ ((cfg0.win 3).blk t).view.set := by
  refine ⟨point (i 0), flush0_3 _, ?_⟩
  have h : ∀ y, ((cfg0.win 3).blk (point (i 0))).view.emb (ix3 (0 : Fin 1) (0 : Fin 1) (i 2 : Fin 6144) : S1x1x6144.Idx) = y → y ∈ ((cfg0.win 3).blk (point (i 0))).view.set := by
    rintro _ rfl
    exact ((cfg0.win 3).blk (point (i 0))).view.emb_mem_set _
  have h1 : @Eq (Fin 1) (i 1) 0 := Subsingleton.elim (α := Fin 1) _ _
  have e : i = ix3 (image (point (i 0))) (0 : Fin 1) (i 2 : Fin 6144) :=
    (eq_ix3 i).trans (congrArg (fun z : Fin 1 => (ix3 (i 0 : Fin 2) z (i 2 : Fin 6144) : S2x1x6144.Idx)) h1)
  exact h i ((emb3 _ _).trans e.symm)

theorem arr_inj : Function.Injective (Pipeline.arrRef spec0) := fun a b h =>
  (by decide +kernel : ∀ a b, Pipeline.arrRef spec0 a = Pipeline.arrRef spec0 b → a = b) a b h

/-- After the run the region's box array holds its boxes, -/
theorem final2 : (dats m 0 c).arrAt 2 cfg0.N = regBoxes m c :=
  (dats m 0 c).arrAt_eq_of_cover 2 (regBoxes m c) (fun t _ => flushed2_eq m c t) cover2
/-- and its flag array its keep flags. -/
theorem final3 : (dats m 0 c).arrAt 3 cfg0.N = regKeep m c :=
  (dats m 0 c).arrAt_eq_of_cover 3 (regKeep m c) (fun t _ => flushed3_eq m c t) cover3

/-! ## The input blocks -/

/-- The score argument, the delta argument and the anchor argument. -/
abbrev arg0 : FVec Ideal S2x261888x2 .f32 := m ((c.tc : Thread nD τ).loc main_arg0)
abbrev arg1 : FVec Ideal S2x261888x4 .f32 := m ((c.tc : Thread nD τ).loc main_arg1)
abbrev arg2 : FVec Ideal S2x261888x4 .f32 := m ((c.tc : Thread nD τ).loc main_arg2)

theorem V_pre (b : Ref sig .tc) : V m c b = rd (afterL preOps (fun b => m (c, b))) b := by
  rw [afterL_eq_after_flatten]
  rfl

/-- A lane of the anchor block is the anchor of its ranked box, -/
theorem anchor_lane (b : Fin 2) (j : Fin 6144) (q : Fin 4) (hj : j.val < 6000) :
    col (iblk m c 0 (point b)) j q = anchor rankFacts (arg0 m c) (arg2 m c) b ⟨j.val, hj⟩ q := by
  show V m c main_v11 (((cfg0.win 0).blk (point b)).view.emb (ix3 (0 : Fin 1) q j : S1x4x6144.Idx)) = _
  rw [emb0, V_pre]
  exact v11_apply _ b j q hj

/-- and a lane of the delta block its scaled delta. -/
theorem delta_lane (b : Fin 2) (j : Fin 6144) (q : Fin 4) (hj : j.val < 6000) :
    col (iblk m c 1 (point b)) j q = delta rankFacts (arg0 m c) (arg1 m c) b ⟨j.val, hj⟩ q := by
  show V m c main_v12 (((cfg0.win 1).blk (point b)).view.emb (ix3 (0 : Fin 1) q j : S1x4x6144.Idx)) = _
  rw [emb1, V_pre]
  exact v12_apply _ b j q hj

/-- So a lane's box is the ranked box, -/
theorem laneBox_eq (b : Fin 2) (j : Fin 6144) (hj : j.val < 6000) :
    laneBox (iblk m c 0 (point b)) (iblk m c 1 (point b)) j = boxes rankFacts (arg0 m c) (arg1 m c) (arg2 m c) b.val j.val := by
  refine Eq.trans ?_ (boxes_val rankFacts (arg0 m c) (arg1 m c) (arg2 m c) b ⟨j.val, hj⟩).symm
  exact congrArg₂ box (funext fun q => delta_lane m c b j q hj) (funext fun q => anchor_lane m c b j q hj)

/-- and the final flags are those of the ranked boxes. -/
theorem keep_eq (b : Fin 2) (j : Nat) :
    keep (boxesOf (iblk m c 0 (point b)) (iblk m c 1 (point b))) 6000 j
      = survives rankFacts (arg0 m c) (arg1 m c) (arg2 m c) b.val j := by
  refine keep_congr _ _ (fun j hj => ?_) 6000 le_rfl j
  exact (boxesOf_val _ _ (⟨j, by omega⟩ : Fin 6144)).trans (laneBox_eq m c b ⟨j, by omega⟩ hj)

theorem rows_apply (b : Fin 2) (j : Fin 6144) (q : Fin 4) (hj : j.val < 6000) :
    rowsOf (regBoxes m c) (ix3 b j q) = boxes rankFacts (arg0 m c) (arg1 m c) (arg2 m c) b.val j.val q := by
  unfold rowsOf
  refine (ValueIdx.transpose_ix3_021_apply _ _ b j q).trans ?_
  refine (boxPay_apply _ _ q j).trans ?_
  exact congrFun (laneBox_eq m c b j hj) q

theorem bits_apply (b : Fin 2) (j : Fin 6144) :
    bitsOf (regKeep m c) (ix2 b j) = 1#1 ↔ survives rankFacts (arg0 m c) (arg1 m c) (arg2 m c) b.val j.val = true := by
  have h1 : shapeCast S2x6144 (regKeep m c) shapeCasts_S2x1x6144_S2x6144 (ix2 b j)
      = bitVal (survives rankFacts (arg0 m c) (arg1 m c) (arg2 m c) b.val j.val) := by
    refine (shapeCast_apply _ _ _ (ix3 b (0 : Fin 1) j) ?_).trans ?_
    · rw [Shape.rowMajor_val_three, Shape.rowMajor_val_two]
      show (b.val * 1 + 0) * 6144 + j.val = b.val * 6144 + j.val
      omega
    · refine (keepPay_apply _ _ j).trans ?_
      exact congrArg bitVal (keep_eq m c b j.val)
  have h2 : bitsOf (regKeep m c) (ix2 b j)
      = BitVec.ofBool (decide (lit 0x3F000000#32 < shapeCast S2x6144 (regKeep m c) shapeCasts_S2x1x6144_S2x6144 (ix2 b j))) := rfl
  rw [h2, h1, half_lt_bitVal]
  cases survives rankFacts (arg0 m c) (arg1 m c) (arg2 m c) b.val j.val <;> decide

/-- THE KERNEL'S RESULT: entry by entry the result of the ranked boxes. -/
theorem tail_result (b : Fin 2) (r : Fin 2000) (q : Fin 4) :
    (Pipeline.afterTail₀ cfgs (dats m) 0 (V0 m) tailOps c main_v62 : FVec Ideal S2x2000x4 .f32) (ix3 b r q)
      = result rankFacts (arg0 m c) (arg1 m c) (arg2 m c) b r q := by
  unfold Pipeline.afterTail₀
  rw [← afterL_eq_after_flatten]
  refine (congrFun (tail_value _) (ix3 b r q)).trans ?_
  have e2 : rd (Pipeline.withArrays (cfgs 0).spec c (V0 m c) fun w => (dats m 0 c).arrAt w (cfgs 0).N) main_v13_0 = regBoxes m c :=
    (Pipeline.withArrays_arr (cfgs 0).spec arr_inj c _ _ 2).trans (final2 m c)
  have e3 : rd (Pipeline.withArrays (cfgs 0).spec c (V0 m c) fun w => (dats m 0 c).arrAt w (cfgs 0).N) main_v13_1 = regKeep m c :=
    (Pipeline.withArrays_arr (cfgs 0).spec arr_inj c _ _ 3).trans (final3 m c)
  rw [e2, e3]
  exact compact_apply compactFacts (survives rankFacts (arg0 m c) (arg1 m c) (arg2 m c)) (bitsOf (regKeep m c)) (by decide) (by decide)
    (by decide) (rowsOf (regBoxes m c)) (boxes rankFacts (arg0 m c) (arg1 m c) (arg2 m c))
    (fun b j q hj => rows_apply m c b j q hj)
    (fun b i h => keep_of_le _ _ _ h) (fun b j => bits_apply m c b j) b r q

/-- The run, read: the result holds the result of the ranked boxes and the arguments are unchanged. -/
theorem run_value : θ_run defs (onTc (τ := τ) (main (F := Ideal))) ⟨m, fun _ => 0, ρ⟩ fun r => ∀ c : Dev nD,
      r.2.mem ((c.tc : Thread nD τ).loc main_v62)
        = (fun i => result rankFacts (arg0 m c) (arg1 m c) (arg2 m c) (i 0) (i 1) (i 2) : FVec Ideal S2x2000x4 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    refine ⟨?_, h.2.1 c⟩
    refine ((h.1.1 c).2 main_v62 (Pipeline.mem_restRefs_of main_v62 (by decide) (by decide))).trans ?_
    refine funext fun (i : S2x2000x4.Idx) => ?_
    have e : i = ix3 (i 0 : Fin 2) (i 1 : Fin 2000) (i 2 : Fin 4) := eq_ix3 i
    exact (congrArg (Pipeline.afterTail₀ cfgs (dats m) 0 (V0 m) tailOps c main_v62 : FVec Ideal S2x2000x4 .f32) e).trans
      (tail_result m c (i 0) (i 1) (i 2)))
    (Idealize.ShloMosaic.θ_run_and (run_main m ρ) (frame_quiescent m ρ))

end Cert.KernelIdeal.Own

end
-- ==== Proof.RefFrame.lean ====
/-
  The reference's frame: its run is the generated fold over @main's stretches and its counted loop; no stretch writes an
  argument, and the program declares no semaphore.
-/
module

public import proofs.«01_k».proof.Proof.Gen.ReferenceIdeal.Run
public import Idealize.ShloMosaic.Lib.Claim

@[expose] public section

set_option maxRecDepth 16384

noncomputable section

namespace Cert.ReferenceIdeal.Own

open Cert.ReferenceIdeal Cert.ReferenceIdeal.Gen Cert.ReferenceIdeal.Value
open Idealize.ShloMosaic Idealize.ShloMosaic.StableHlo Idealize.ShloMosaic.TcCoe
open Idealize.SL.Sem

variable {F : FTy → Type} [FloatOps F]

/-! ## What the stretches after the loop write -/

/-- What the stretch `hostOps0_7` writes, and that it writes nothing else. -/
abbrev W7 : List (Ref sig .tc) := [main_call3_v0, main_call3_call0_c, main_call3_call0_v0, main_v109]
theorem writes7 : (hostOps0_7 : List (HloOp τ sig (Elt F))).Forall fun op => op.writes ⊆ (W7.map (Proc.devRef (τ := τ) .tc)).toFinset :=
  StableHlo.forall_writes_sub_of_map rfl
/-- What the stretch `hostOps0_8` writes, and that it writes nothing else. -/
abbrev W8 : List (Ref sig .tc) := [main_c_11, main_v110, main_v111, main_c_12, main_v112, main_v113, main_c_13, main_v114, main_v115, main_v116, main_c_14, main_v117, main_v118, main_c_15, main_v119, main_v120, main_v121, main_c_16, main_v122, main_v123, main_c_17, main_v124, main_v125, main_v126, main_v127, main_v128, main_v129, main_v130, main_c_18, main_v131, main_v132]
theorem writes8 : (hostOps0_8 : List (HloOp τ sig (Elt F))).Forall fun op => op.writes ⊆ (W8.map (Proc.devRef (τ := τ) .tc)).toFinset :=
  StableHlo.forall_writes_sub_of_map rfl
/-- What the stretch `hostOps0_9` writes, and that it writes nothing else. -/
abbrev W9 : List (Ref sig .tc) := [main_call4_call0_c, main_call4_call0_v0, main_v133]
theorem writes9 : (hostOps0_9 : List (HloOp τ sig (Elt F))).Forall fun op => op.writes ⊆ (W9.map (Proc.devRef (τ := τ) .tc)).toFinset :=
  StableHlo.forall_writes_sub_of_map rfl
/-- What the stretch `hostOps0_10` writes, and that it writes nothing else. -/
abbrev W10 : List (Ref sig .tc) := [main_c_19]
theorem writes10 : (hostOps0_10 : List (HloOp τ sig (Elt F))).Forall fun op => op.writes ⊆ (W10.map (Proc.devRef (τ := τ) .tc)).toFinset :=
  StableHlo.forall_writes_sub_of_map rfl
/-- What the stretch `hostOps0_11` writes, and that it writes nothing else. -/
abbrev W11 : List (Ref sig .tc) := [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v134]
theorem writes11 : (hostOps0_11 : List (HloOp τ sig (Elt F))).Forall fun op => op.writes ⊆ (W11.map (Proc.devRef (τ := τ) .tc)).toFinset :=
  StableHlo.forall_writes_sub_of_map rfl
/-- What the stretch `hostOps0_12` writes, and that it writes nothing else. -/
abbrev W12 : List (Ref sig .tc) := [main_c_20]
theorem writes12 : (hostOps0_12 : List (HloOp τ sig (Elt F))).Forall fun op => op.writes ⊆ (W12.map (Proc.devRef (τ := τ) .tc)).toFinset :=
  StableHlo.forall_writes_sub_of_map rfl
/-- What the stretch `hostOps0_13` writes, and that it writes nothing else. -/
abbrev W13 : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v135]
theorem writes13 : (hostOps0_13 : List (HloOp τ sig (Elt F))).Forall fun op => op.writes ⊆ (W13.map (Proc.devRef (τ := τ) .tc)).toFinset :=
  StableHlo.forall_writes_sub_of_map rfl
/-- What the stretch `hostOps0_14` writes, and that it writes nothing else. -/
abbrev W14 : List (Ref sig .tc) := [main_v136, main_c_21, main_v137, main_v138, main_v139, main_v140, main_v141, main_v142, main_v143, main_c_22, main_v144]
theorem writes14 : (hostOps0_14 : List (HloOp τ sig (Elt F))).Forall fun op => op.writes ⊆ (W14.map (Proc.devRef (τ := τ) .tc)).toFinset :=
  StableHlo.forall_writes_sub_of_map rfl
/-- What the stretch `hostOps0_15` writes, and that it writes nothing else. -/
abbrev W15 : List (Ref sig .tc) := [main_call7_v0, main_v145]
theorem writes15 : (hostOps0_15 : List (HloOp τ sig (Elt F))).Forall fun op => op.writes ⊆ (W15.map (Proc.devRef (τ := τ) .tc)).toFinset :=
  StableHlo.forall_writes_sub_of_map rfl
/-- What the stretch `hostOps0_16` writes, and that it writes nothing else. -/
abbrev W16 : List (Ref sig .tc) := [main_c_23, main_v146, main_v147, main_v148, main_v149, main_c_24, main_c_25]
theorem writes16 : (hostOps0_16 : List (HloOp τ sig (Elt F))).Forall fun op => op.writes ⊆ (W16.map (Proc.devRef (τ := τ) .tc)).toFinset :=
  StableHlo.forall_writes_sub_of_map rfl
/-- What the stretch `hostOps0_17` writes, and that it writes nothing else. -/
abbrev W17 : List (Ref sig .tc) := [main_call8_v0, main_call8_v1, main_call8_v2, main_call8_v3, main_call8_v4, main_v150]
theorem writes17 : (hostOps0_17 : List (HloOp τ sig (Elt F))).Forall fun op => op.writes ⊆ (W17.map (Proc.devRef (τ := τ) .tc)).toFinset :=
  StableHlo.forall_writes_sub_of_map rfl
/-- What the stretch `hostOps0_18` writes, and that it writes nothing else. -/
abbrev W18 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v151]
theorem writes18 : (hostOps0_18 : List (HloOp τ sig (Elt F))).Forall fun op => op.writes ⊆ (W18.map (Proc.devRef (τ := τ) .tc)).toFinset :=
  StableHlo.forall_writes_sub_of_map rfl
/-- What the stretch `hostOps0_19` writes, and that it writes nothing else. -/
abbrev W19 : List (Ref sig .tc) := [main_v152, main_v153]
theorem writes19 : (hostOps0_19 : List (HloOp τ sig (Elt F))).Forall fun op => op.writes ⊆ (W19.map (Proc.devRef (τ := τ) .tc)).toFinset :=
  StableHlo.forall_writes_sub_of_map rfl

/-! ## A buffer no stretch writes ends as it began -/

variable (m : (ℓ : Loc nD τ sig) → Buf (Elt F) ℓ) (ρ : Dev nD → PrngReg)

/-- A buffer no stretch before the loop writes is at the loop's entry as at launch. -/
theorem entry_of_not_written (c : Dev nD) (r : Ref sig .tc)
    (h : r ∉ hostOps0_W ++ hostOps0_1_W ++ hostOps0_2_W ++ hostOps0_3_W ++ hostOps0_4_W ++ hostOps0_5_W ++ hostOps0_6_W) :
    entryContents preI m c (Proc.devRef .tc r) = launchContents m c (Proc.devRef .tc r) := by
  simp only [List.mem_append, not_or] at h
  obtain ⟨⟨⟨⟨⟨⟨h0, h1⟩, h2⟩, h3⟩, h4⟩, h5⟩, h6⟩ := h
  simp only [entryContents, preI, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer neither the condition nor the body writes is before every condition as at the loop's entry. -/
theorem atK_of_not_written (c : Dev nD) (r : Ref sig .tc) (h : r ∉ condOps_W) (hw : r ∉ while0Ops0_W) :
    ∀ k, atK m k c (Proc.devRef .tc r) = entryContents preI m c (Proc.devRef .tc r)
  | 0 => rfl
  | k + 1 => by
    rw [show atK m (k + 1) c = afterL bodyI (after condOps (atK m k c)) from rfl]
    simp only [bodyI, afterL_cons, afterL_nil]
    rw [after_of_writes_sub _ _ while0Ops0_writes hw, after_of_writes_sub _ _ condOps_writes h, atK_of_not_written c r h hw k]
    rfl

/-- A buffer no stretch after the loop writes is at the end as after the last condition. -/
theorem post_of_not_written (V : Valuation τ sig (Elt F)) (r : Ref sig .tc)
    (h : r ∉ W7 ++ W8 ++ W9 ++ W10 ++ W11 ++ W12 ++ W13 ++ W14 ++ W15 ++ W16 ++ W17 ++ W18 ++ W19) :
    afterL postI V (Proc.devRef .tc r) = V (Proc.devRef .tc r) := by
  simp only [List.mem_append, not_or] at h
  obtain ⟨⟨⟨⟨⟨⟨⟨⟨⟨⟨⟨⟨h7, h8⟩, h9⟩, h10⟩, h11⟩, h12⟩, h13⟩, h14⟩, h15⟩, h16⟩, h17⟩, h18⟩, h19⟩ := h
  simp only [postI, afterL_cons, afterL_nil]
  rw [after_of_writes_sub _ _ writes19 h19, after_of_writes_sub _ _ writes18 h18, after_of_writes_sub _ _ writes17 h17,
    after_of_writes_sub _ _ writes16 h16, after_of_writes_sub _ _ writes15 h15, after_of_writes_sub _ _ writes14 h14,
    after_of_writes_sub _ _ writes13 h13, after_of_writes_sub _ _ writes12 h12, after_of_writes_sub _ _ writes11 h11,
    after_of_writes_sub _ _ writes10 h10, after_of_writes_sub _ _ writes9 h9, after_of_writes_sub _ _ writes8 h8,
    after_of_writes_sub _ _ writes7 h7]

/-- So an argument ends as it began. -/
theorem final_of_not_written (c : Dev nD) (r : Ref sig .tc)
    (h : r ∉ hostOps0_W ++ hostOps0_1_W ++ hostOps0_2_W ++ hostOps0_3_W ++ hostOps0_4_W ++ hostOps0_5_W ++ hostOps0_6_W)
    (hc : r ∉ condOps_W) (hw : r ∉ while0Ops0_W)
    (hp : r ∉ W7 ++ W8 ++ W9 ++ W10 ++ W11 ++ W12 ++ W13 ++ W14 ++ W15 ++ W16 ++ W17 ++ W18 ++ W19) :
    finalContents condOps preI bodyI postI 6000 m c (Proc.devRef .tc r) = m ((c.tc : Thread nD τ).loc r) := by
  show afterL postI (after condOps (atK m 6000 c)) (Proc.devRef .tc r) = _
  rw [post_of_not_written _ r hp, after_of_writes_sub _ _ condOps_writes hc, atK_of_not_written m c r hc hw,
    entry_of_not_written m c r h, launchContents_devRef]

theorem final_arg0 (c : Dev nD) : finalContents condOps preI bodyI postI 6000 m c (Proc.devRef .tc main_arg0) = m ((c.tc : Thread nD τ).loc main_arg0) :=
  final_of_not_written m c main_arg0 (by decide +kernel) (by decide +kernel) (by decide +kernel) (by decide +kernel)
theorem final_arg1 (c : Dev nD) : finalContents condOps preI bodyI postI 6000 m c (Proc.devRef .tc main_arg1) = m ((c.tc : Thread nD τ).loc main_arg1) :=
  final_of_not_written m c main_arg1 (by decide +kernel) (by decide +kernel) (by decide +kernel) (by decide +kernel)
theorem final_arg2 (c : Dev nD) : finalContents condOps preI bodyI postI 6000 m c (Proc.devRef .tc main_arg2) = m ((c.tc : Thread nD τ).loc main_arg2) :=
  final_of_not_written m c main_arg2 (by decide +kernel) (by decide +kernel) (by decide +kernel) (by decide +kernel)

/-- The frame: @main terminates with its three arguments unchanged and every counter at zero. -/
theorem frame_quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun r h => ⟨fun c => ⟨(h c main_arg0 (by decide)).trans (final_arg0 m c), (h c main_arg1 (by decide)).trans (final_arg1 m c),
      (h c main_arg2 (by decide)).trans (final_arg2 m c)⟩, sem_eq_zero_of_no_sems (by decide) r.2⟩)
    (run_fold m ρ)

end Cert.ReferenceIdeal.Own

end
-- ==== Proof.RefTail.lean ====
/-
  What the reference's lines after its loop leave in the result: the compaction of the decoded boxes by the loop's keep
  flags.
-/
module

public import proofs.«01_k».proof.Proof.RefFrame
public import proofs.«01_k».proof.Proof.Compact
public import Idealize.ShloMosaic.Lib.StableHlo.RunLoop

@[expose] public section

set_option maxRecDepth 16384

noncomputable section

namespace Cert.ReferenceIdeal.Own

open Cert.ReferenceIdeal Cert.ReferenceIdeal.Gen Cert.ReferenceIdeal.Value Cert.Rows Idealize.ShloMosaic.Routing
open Idealize.ShloMosaic Idealize.ShloMosaic.TcCoe Idealize.ShloMosaic.Tactic Idealize.ShloMosaic.StableHlo

/-- The side conditions of the compaction, from the program's. -/
theorem compactFacts : CompactFacts 6000 5999 where
  lt := natLt_1_32
  hu := h_S_
  bS := bcast_S_S_
  bSr := bcast_S_S2x2000
  bSn := bcast_S_S2x6000
  bS2 := bcast_S_S2
  bS21 := bcast_S_S2x1
  bS1 := bcast_S_S1
  b2 := bcast_S2_S2x1_0
  b21n := bcast_S2x1_S2x6000_0_1
  b21r := bcast_S2x1_S2x2000_0_1
  bnL := bcast_S2x6000_S2x6000x1_0_1
  brL := bcast_S2x2000_S2x2000x1_0_1
  br4 := bcast_S2x2000x1_S2x2000x4_0_1_2
  bI := bcast_S2000_S1x2000_1
  bI2 := bcast_S1x2000_S2x2000_0_1
  b1r := bcast_S1_S2x2000_1
  winN := reduceWindows_S2x6000_S2x6000_w1s1p0_0_w6000s1p5999_0
  winR := reduceWindows_S2x2000_S2x2000_w1s1p0_0_w2000s1p1999_0
  cat := concatenates_S2x6000x1_S2x6000x1_S2x6000x2_d2
  red := reducesTo_S2x6000_S2_d1
  swf := scatter_S2x2000_S2x6000x2_S2x6000_n_01_01_2_wf
  take :=
    { bSi := bcast_S_S2x2000x1
      bLane := bcast_S2x2000_S2x2000x1_0_1
      b1 := bcast_S1_S1x1x1_2
      b111 := bcast_S1x1x1_S2x2000x1_0_1_2
      red := reducesTo_S2x2000x1_S2x2000_d2
      hu := h_S_
      bOut := bcast_S2x2000_S2x2000x4_0_1
      bNan := bcast_S_S2x2000x4
      wf := gather_S2x6000x4_S2x2000x1_S2x2000x4_2_1_0_0_1_2_114_wf }

/-- A TensorCore buffer's contents in a valuation. -/
abbrev rd (V : Valuation τ sig (Elt Ideal)) (b : Ref sig .tc) := V (Proc.devRef .tc b)

attribute [local irreducible] Host.reduceWindow Host.reduce Host.scatter Host.gather

variable (V : Valuation τ sig (Elt Ideal))

theorem stage1 : rd (after hostOps0_7 V) main_v109 = runs compactFacts (rd V main_v108_4) := by
  unfold rd
  after_results
  rfl
theorem stage2 : rd (after hostOps0_8 V) main_v132 = hist compactFacts (rd V main_v109) := by
  unfold rd
  after_results
  rfl
theorem stage3 : rd (after hostOps0_9 V) main_v133 = sums compactFacts (rd V main_v132) := by
  unfold rd
  after_results
  rfl
theorem stage4 : rd (after hostOps0_10 V) main_c_19 = constantI S_ 32 1#32 := by
  unfold rd
  after_results
theorem stage5 (h : rd V main_c_19 = constantI S_ 32 1#32) : rd (after hostOps0_11 V) main_v134 = quot compactFacts (rd V main_v133) := by
  unfold quot
  refine Eq.trans ?_ (congrArg (fun d => Routing.pyDiv compactFacts.bSr (rd V main_v133) (id d)) h)
  unfold rd
  after_results
  rfl
theorem stage6 : rd (after hostOps0_12 V) main_c_20 = constantI S_ 32 6000#32 := by
  unfold rd
  after_results
set_option maxHeartbeats 1000000 in
seal Host.remsi broadcastInDim constantI select cmpi addi andi in
theorem stage7 (h : rd V main_c_20 = constantI S_ 32 6000#32) : rd (after hostOps0_13 V) main_v135 = rest compactFacts 6000#32 (rd V main_v134) := by
  unfold rest
  refine Eq.trans ?_ (congrArg (fun d => Routing.pyRem compactFacts.bSr (rd V main_v134) (id d)) h)
  unfold rd Routing.pyRem Routing.divGuard
  after_results
  rfl
theorem stage8_v52 : rd (after hostOps0_14 V) main_v143 = past compactFacts (rd V main_v108_4) := by
  unfold rd past
  after_results
theorem stage8_v53 : rd (after hostOps0_14 V) main_v144 = broadcastInDim S1 ![] bcast_S_S1 (constantI S_ 32 4294967295#32) := by
  unfold rd
  after_results
theorem stage9 (mask : IVec S2x6000 1) (h : rd V main_v143 = past compactFacts mask)
    (h' : rd V main_v144 = broadcastInDim S1 ![] bcast_S_S1 (constantI S_ 32 4294967295#32)) :
    rd (after hostOps0_15 V) main_v145 = position compactFacts mask (rd V main_v135) := by
  unfold position
  rw [← h]
  refine Eq.trans ?_ (congrArg (fun d => select (rd V main_v143) (broadcastInDim S2x2000 ![1] bcast_S1_S2x2000_1 d) (rd V main_v135)) h')
  unfold rd
  after_results
  rfl
theorem stage10_v58 : rd (after hostOps0_16 V) main_v149 = valid compactFacts (rd V main_v145) := by
  unfold rd
  after_results
  rfl
theorem stage10_c15 : rd (after hostOps0_16 V) main_c_24 = constantI S_ 32 0#32 := by
  unfold rd
  after_results
theorem stage10_c16 : rd (after hostOps0_16 V) main_c_25 = constantI S_ 32 5999#32 := by
  unfold rd
  after_results
theorem stage11 (h : rd V main_c_24 = constantI S_ 32 0#32) (h' : rd V main_c_25 = constantI S_ 32 5999#32) :
    rd (after hostOps0_17 V) main_v150 = clipped compactFacts (rd V main_v145) := by
  unfold clipped
  rw [show constantI shape0 32 0#32 = _ from h.symm, show constantI shape0 32 5999#32 = _ from h'.symm]
  unfold rd
  after_results
  rfl
theorem stage12 : rd (after hostOps0_18 V) main_v151 = taken compactFacts 6000#32 5999#32 (rd V main_v58) (rd V main_v150) := by
  unfold rd
  after_results
  rfl
theorem stage13 : rd (after hostOps0_19 V) main_v153
    = mulf (F := Ideal) (s := S2x2000x4) (φ := .f32) (rd V main_v151) (broadcastInDim S2x2000x4 ![0, 1, 2] bcast_S2x2000x1_S2x2000x4_0_1_2 (rd V main_v149)) := by
  unfold rd
  after_results

/-- A buffer a stretch of lines does not write keeps its contents. -/
theorem rd_keep {ops : List (HloOp τ sig (Elt Ideal))} {W : List (Ref sig .tc)}
    (hW : ops.Forall fun op => op.writes ⊆ (W.map (Proc.devRef (τ := τ) .tc)).toFinset) {b : Ref sig .tc} (hb : b ∉ W) :
    rd (after ops V) b = rd V b := after_of_writes_sub ops V hW hb

/-- THE TAIL: after the lines that follow the loop the result holds the compaction of the decoded boxes by the keep flags. -/
theorem tail_value : rd (afterL postI V) main_v153
    = compact compactFacts 6000#32 5999#32 (rd V main_v108_4) (rd V main_v58) := by
  unfold postI
  simp only [afterL_cons, afterL_nil]
  rw [stage13, stage12]
  rw [rd_keep _ writes18 (b := main_v149) (by decide)]
  rw [stage11 _ (stage10_c15 _) (stage10_c16 _)]
  rw [rd_keep _ writes17 (b := main_v149) (by decide), stage10_v58]
  rw [rd_keep _ writes16 (b := main_v145) (by decide)]
  rw [stage9 _ _ (stage8_v52 _) (stage8_v53 _)]
  rw [rd_keep _ writes14 (b := main_v135) (by decide)]
  rw [rd_keep _ writes13 (b := main_v108_4) (by decide)]
  rw [stage7 _ (stage6 _)]
  rw [rd_keep _ writes12 (b := main_v134) (by decide)]
  rw [stage5 _ (stage4 _)]
  rw [rd_keep _ writes10 (b := main_v133) (by decide)]
  rw [stage3, stage2, stage1]
  rw [rd_keep _ writes12 (b := main_v108_4) (by decide), rd_keep _ writes11 (b := main_v108_4) (by decide),
    rd_keep _ writes10 (b := main_v108_4) (by decide), rd_keep _ writes9 (b := main_v108_4) (by decide),
    rd_keep _ writes8 (b := main_v108_4) (by decide), rd_keep _ writes7 (b := main_v108_4) (by decide)]
  rw [rd_keep _ writes17 (b := main_v58) (by decide), rd_keep _ writes16 (b := main_v58) (by decide),
    rd_keep _ writes15 (b := main_v58) (by decide), rd_keep _ writes14 (b := main_v58) (by decide),
    rd_keep _ writes13 (b := main_v58) (by decide), rd_keep _ writes12 (b := main_v58) (by decide),
    rd_keep _ writes11 (b := main_v58) (by decide), rd_keep _ writes10 (b := main_v58) (by decide),
    rd_keep _ writes9 (b := main_v58) (by decide), rd_keep _ writes8 (b := main_v58) (by decide),
    rd_keep _ writes7 (b := main_v58) (by decide)]
  rfl

end Cert.ReferenceIdeal.Own

end
-- ==== Proof.RefBoxes.lean ====
/-
  The reference's boxes and overlap table as functions of the ranked deltas and anchors, and their entries.
-/
module

public import proofs.«01_k».proof.Proof.RefTail
public import proofs.«01_k».proof.Proof.Inputs
public import Idealize.ShloMosaic.Lib.KernelVsHost
public import Idealize.ShloMosaic.Lib.ValueLayout

@[expose] public section

set_option maxRecDepth 16384

noncomputable section

namespace Cert.ReferenceIdeal.Own

open Cert.ReferenceIdeal Cert.ReferenceIdeal.Gen Cert.Rows Cert.Inputs Cert.Boxes
open Idealize.ShloMosaic Idealize.ShloMosaic.Routing
open Idealize.ShloMosaic.ValueIdx (ix1 ix2 ix3 eq_ix3)

/-- Rows of four numbers, and tables of one number per box and per pair of boxes. -/
abbrev Rows4 := FVec Ideal S2x6000x4 .f32
abbrev Each := FVec Ideal S2x6000 .f32
abbrev Pairs := FVec Ideal S2x6000x6000 .f32

/-- The four columns of a table of boxes. -/
def column0 (x : Rows4) : Each :=
  shapeCast S2x6000 (extractStridedSlice S2x6000x1 ![0, 0, 0] x slices_S2x6000x4_S2x6000x1_0_0_0) shapeCasts_S2x6000x1_S2x6000
def column1 (x : Rows4) : Each :=
  shapeCast S2x6000 (extractStridedSlice S2x6000x1 ![0, 0, 1] x slices_S2x6000x4_S2x6000x1_0_0_1) shapeCasts_S2x6000x1_S2x6000
def column2 (x : Rows4) : Each :=
  shapeCast S2x6000 (extractStridedSlice S2x6000x1 ![0, 0, 2] x slices_S2x6000x4_S2x6000x1_0_0_2) shapeCasts_S2x6000x1_S2x6000
def column3 (x : Rows4) : Each :=
  shapeCast S2x6000 (extractStridedSlice S2x6000x1 ![0, 0, 3] x slices_S2x6000x4_S2x6000x1_0_0_3) shapeCasts_S2x6000x1_S2x6000

/-- One half for every box. -/
def halves : Each := broadcastInDim S2x6000 ![] bcast_S_S2x6000 (constant S_ .f32 0x3F000000#32)

/-- The extents, centres and lower edges along an axis, from the delta columns `d`, `e` and the anchor columns `lo`, `hi`. -/
def sizes (e lo hi : Each) : Each := mulf (subf hi lo) (Host.exp e)
def centres (d lo hi : Each) : Each := addf (addf lo (mulf halves (subf hi lo))) (mulf d (subf hi lo))
def lows (d e lo hi : Each) : Each := subf (centres d lo hi) (mulf halves (sizes e lo hi))

/-- A column laid out as a one-column table. -/
def lane1 (x : Each) : FVec Ideal S2x6000x1 .f32 := broadcastInDim S2x6000x1 ![0, 1] bcast_S2x6000_S2x6000x1_0_1 x

/-- The decoded boxes before clipping. -/
def decoded (d a : Rows4) : Rows4 :=
  concatenate S2x6000x4 2
    [⟨S2x6000x1, lane1 (lows (column0 d) (column2 d) (column0 a) (column2 a))⟩,
     ⟨S2x6000x1, lane1 (lows (column1 d) (column3 d) (column1 a) (column3 a))⟩,
     ⟨S2x6000x1, lane1 (addf (lows (column0 d) (column2 d) (column0 a) (column2 a)) (sizes (column2 d) (column0 a) (column2 a)))⟩,
     ⟨S2x6000x1, lane1 (addf (lows (column1 d) (column3 d) (column1 a) (column3 a)) (sizes (column3 d) (column1 a) (column3 a)))⟩]
    concatenates_S2x6000x1_S2x6000x1_S2x6000x1_S2x6000x1_S2x6000x4_d2

/-- The boxes clipped to the unit square. -/
def clipped4 (x : Rows4) : Rows4 :=
  minimumf (broadcastInDim S2x6000x4 ![] bcast_S_S2x6000x4 (constant S_ .f32 0x3F800000#32))
    (maximumf (broadcastInDim S2x6000x4 ![] bcast_S_S2x6000x4 (constant S_ .f32 0x00000000#32)) x)

/-- A number per box, repeated along the second box or along the first. -/
def alongSecond (x : Each) : Pairs :=
  broadcastInDim S2x6000x6000 ![0, 1, 2] bcast_S2x6000x1_S2x6000x6000_0_1_2 (lane1 x)
def alongFirst (x : Each) : Pairs :=
  broadcastInDim S2x6000x6000 ![0, 1, 2] bcast_S2x1x6000_S2x6000x6000_0_1_2
    (broadcastInDim S2x1x6000 ![0, 2] bcast_S2x6000_S2x1x6000_0_2 x)

/-- One number for every pair. -/
def everyPair (w : BitVec 32) : Pairs := broadcastInDim S2x6000x6000 ![] bcast_S_S2x6000x6000 (constant S_ .f32 w)

/-- The boxes' areas, -/
def areas (x : Rows4) : Each := mulf (subf (column2 x) (column0 x)) (subf (column3 x) (column1 x))

/-- the areas they share pair by pair, -/
def inters (x : Rows4) : Pairs :=
  mulf
    (maximumf (subf (minimumf (alongSecond (column2 x)) (alongFirst (column2 x)))
      (maximumf (alongSecond (column0 x)) (alongFirst (column0 x)))) (everyPair 0x00000000#32))
    (maximumf (subf (minimumf (alongSecond (column3 x)) (alongFirst (column3 x)))
      (maximumf (alongSecond (column1 x)) (alongFirst (column1 x)))) (everyPair 0x00000000#32))

/-- and their overlap ratios. -/
def overlaps (x : Rows4) : Pairs :=
  Host.divf (inters x)
    (addf (subf (addf (alongSecond (areas x)) (alongFirst (areas x))) (inters x)) (everyPair 0x322BCC77#32))

/-! ## Their entries -/

theorem column_at (o : Nat) (x : Rows4) (h : S2x6000x4.Slices ![0, 0, o] S2x6000x1) (hc : S2x6000x1.ShapeCasts S2x6000)
    (q : Fin 4) (hq : q.val = o) (b : Fin 2) (j : Fin 6000) :
    shapeCast S2x6000 (extractStridedSlice S2x6000x1 ![0, 0, o] x h) hc (ix2 b j) = x (ix3 b j q) := by
  refine (shapeCast_apply _ hc _ (ix3 b j (0 : Fin 1)) ?_).trans ?_
  · rw [Shape.rowMajor_val_three, Shape.rowMajor_val_two]
    show (b.val * 6000 + j.val) * 1 + 0 = b.val * 6000 + j.val
    omega
  · refine extractStridedSlice_apply _ x h _ _ fun a => ?_
    match a with
    | ⟨0, _⟩ => exact (Nat.zero_add _).symm
    | ⟨1, _⟩ => exact (Nat.zero_add _).symm
    | ⟨2, _⟩ => exact hq

theorem column0_apply (x : Rows4) (b : Fin 2) (j : Fin 6000) : column0 x (ix2 b j) = x (ix3 b j (0 : Fin 4)) := by
  unfold column0; exact column_at 0 x _ _ 0 rfl b j
theorem column1_apply (x : Rows4) (b : Fin 2) (j : Fin 6000) : column1 x (ix2 b j) = x (ix3 b j (1 : Fin 4)) := by
  unfold column1; exact column_at 1 x _ _ 1 rfl b j
theorem column2_apply (x : Rows4) (b : Fin 2) (j : Fin 6000) : column2 x (ix2 b j) = x (ix3 b j (2 : Fin 4)) := by
  unfold column2; exact column_at 2 x _ _ 2 rfl b j
theorem column3_apply (x : Rows4) (b : Fin 2) (j : Fin 6000) : column3 x (ix2 b j) = x (ix3 b j (3 : Fin 4)) := by
  unfold column3; exact column_at 3 x _ _ 3 rfl b j

theorem sizes_apply (e lo hi : Each) (i : S2x6000.Idx) : sizes e lo hi i = size (e i) (lo i) (hi i) := rfl
theorem lows_apply (d e lo hi : Each) (i : S2x6000.Idx) : lows d e lo hi i = low (d i) (e i) (lo i) (hi i) := rfl
theorem highs_apply (d e lo hi : Each) (i : S2x6000.Idx) :
    addf (lows d e lo hi) (sizes e lo hi) i = highFrom (d i) (e i) (lo i) (hi i) := rfl

theorem lane1_apply (x : Each) (b : Fin 2) (j : Fin 6000) : lane1 x (ix3 b j (0 : Fin 1)) = x (ix2 b j) := by
  unfold lane1; exact lane_apply _ _ b j

theorem stack3_apply (x0 x1 x2 x3 : FVec Ideal S2x6000x1 .f32)
    (h : Shape.Concatenates [S2x6000x1, S2x6000x1, S2x6000x1, S2x6000x1] S2x6000x4 2) (b : Fin 2) (j : Fin 6000) (c : Fin 4) :
    concatenate S2x6000x4 2 [⟨S2x6000x1, x0⟩, ⟨S2x6000x1, x1⟩, ⟨S2x6000x1, x2⟩, ⟨S2x6000x1, x3⟩] h (ix3 b j c)
      = (![x0, x1, x2, x3] c) (ix3 b j (0 : Fin 1)) := by
  have side : ∀ (c : Fin 4) (a : Fin S2x6000x1.rank), a.cast (show S2x6000x1.rank = S2x6000x4.rank from rfl) ≠ (2 : Fin 3) →
      ((ix3 b j (0 : Fin 1) : S2x6000x1.Idx) a).val = ((ix3 b j c : S2x6000x4.Idx) (a.cast rfl)).val := by
    intro c a ha
    match a with
    | ⟨0, _⟩ => rfl
    | ⟨1, _⟩ => rfl
    | ⟨2, _⟩ => exact absurd rfl ha
  let xs : List ((s : Shape) × (s.Idx → Ideal .f32)) := [⟨S2x6000x1, x0⟩, ⟨S2x6000x1, x1⟩, ⟨S2x6000x1, x2⟩, ⟨S2x6000x1, x3⟩]
  match c with
  | ⟨0, _⟩ => exact concatenate_apply_piece (t := S2x6000x4) 2 xs h _ 0 (by show 0 < 4; decide) S2x6000x1 x0 rfl rfl 0 rfl (ix3 b j (0 : Fin 1)) (side _) rfl
  | ⟨1, _⟩ => exact concatenate_apply_piece (t := S2x6000x4) 2 xs h _ 1 (by show 1 < 4; decide) S2x6000x1 x1 rfl rfl 1 rfl (ix3 b j (0 : Fin 1)) (side _) rfl
  | ⟨2, _⟩ => exact concatenate_apply_piece (t := S2x6000x4) 2 xs h _ 2 (by show 2 < 4; decide) S2x6000x1 x2 rfl rfl 2 rfl (ix3 b j (0 : Fin 1)) (side _) rfl
  | ⟨3, _⟩ => exact concatenate_apply_piece (t := S2x6000x4) 2 xs h _ 3 (by show 3 < 4; decide) S2x6000x1 x3 rfl rfl 3 rfl (ix3 b j (0 : Fin 1)) (side _) rfl

theorem clipped4_apply (x : Rows4) (i : S2x6000x4.Idx) : clipped4 x i = clip (x i) := rfl

/-- The clipped decoded box of a row is `boxFrom` of its deltas and anchor. -/
theorem decoded_apply (d a : Rows4) (b : Fin 2) (j : Fin 6000) (c : Fin 4) :
    clipped4 (decoded d a) (ix3 b j c) = boxFrom (fun q => d (ix3 b j q)) (fun q => a (ix3 b j q)) c := by
  rw [clipped4_apply]
  unfold decoded
  rw [stack3_apply]
  match c with
  | ⟨0, _⟩ =>
    refine (congrArg clip (lane1_apply (lows (column0 d) (column2 d) (column0 a) (column2 a)) b j)).trans ?_
    rw [lows_apply, column0_apply, column2_apply, column0_apply, column2_apply]
    rfl
  | ⟨1, _⟩ =>
    refine (congrArg clip (lane1_apply (lows (column1 d) (column3 d) (column1 a) (column3 a)) b j)).trans ?_
    rw [lows_apply, column1_apply, column3_apply, column1_apply, column3_apply]
    rfl
  | ⟨2, _⟩ =>
    refine (congrArg clip (lane1_apply (addf (lows (column0 d) (column2 d) (column0 a) (column2 a)) (sizes (column2 d) (column0 a) (column2 a))) b j)).trans ?_
    rw [highs_apply, column0_apply, column2_apply, column0_apply, column2_apply]
    rfl
  | ⟨3, _⟩ =>
    refine (congrArg clip (lane1_apply (addf (lows (column1 d) (column3 d) (column1 a) (column3 a)) (sizes (column3 d) (column1 a) (column3 a))) b j)).trans ?_
    rw [highs_apply, column1_apply, column3_apply, column1_apply, column3_apply]
    rfl

theorem alongSecond_apply (x : Each) (b : Fin 2) (i j : Fin 6000) : alongSecond x (ix3 b i j) = x (ix2 b i) := by
  unfold alongSecond
  refine (broadcastInDim_apply _ bcast_S2x6000x1_S2x6000x6000_0_1_2 _ _ (ix3 b i (0 : Fin 1)) fun a => ?_).trans (lane1_apply x b i)
  match a with
  | ⟨0, _⟩ => exact (if_neg (show ¬ (2 : Nat) = 1 by decide)).symm
  | ⟨1, _⟩ => exact (if_neg (show ¬ (6000 : Nat) = 1 by decide)).symm
  | ⟨2, _⟩ => rfl

theorem alongFirst_apply (x : Each) (b : Fin 2) (i j : Fin 6000) : alongFirst x (ix3 b i j) = x (ix2 b j) := by
  unfold alongFirst
  refine (broadcastInDim_apply _ bcast_S2x1x6000_S2x6000x6000_0_1_2 _ _ (ix3 b (0 : Fin 1) j) fun a => ?_).trans ?_
  · match a with
    | ⟨0, _⟩ => exact (if_neg (show ¬ (2 : Nat) = 1 by decide)).symm
    | ⟨1, _⟩ => rfl
    | ⟨2, _⟩ => exact (if_neg (show ¬ (6000 : Nat) = 1 by decide)).symm
  · refine broadcastInDim_apply _ bcast_S2x6000_S2x1x6000_0_2 _ _ (ix2 b j) fun a => ?_
    match a with
    | ⟨0, _⟩ => exact (if_neg (show ¬ (2 : Nat) = 1 by decide)).symm
    | ⟨1, _⟩ => exact (if_neg (show ¬ (6000 : Nat) = 1 by decide)).symm

theorem everyPair_apply (w : BitVec 32) (i : S2x6000x6000.Idx) : everyPair w i = lit w := rfl

variable (x : Rows4) (bx : Nat → Nat → Fin 4 → EReal)
  (h : ∀ (b : Fin 2) (j : Fin 6000) (c : Fin 4), x (ix3 b j c) = bx b.val j.val c)

include h

theorem areas_apply (b : Fin 2) (j : Fin 6000) : areas x (ix2 b j) = area (bx b.val j.val) := by
  unfold areas
  rw [ValueIdx.mulf_apply, ValueIdx.subf_apply, ValueIdx.subf_apply, column0_apply, column1_apply, column2_apply, column3_apply,
    h, h, h, h]
  rfl

theorem inters_apply (b : Fin 2) (i j : Fin 6000) : inters x (ix3 b i j) = inter (bx b.val i.val) (bx b.val j.val) := by
  unfold inters
  rw [ValueIdx.mulf_apply, ValueIdx.maximumf_apply, ValueIdx.maximumf_apply, ValueIdx.subf_apply, ValueIdx.subf_apply,
    ValueIdx.maximumf_apply, ValueIdx.maximumf_apply, ValueIdx.minimumf_apply, ValueIdx.minimumf_apply]
  simp only [alongSecond_apply, alongFirst_apply, column0_apply, column1_apply, column2_apply, column3_apply, everyPair_apply, h]
  rfl

/-- An entry of the overlap table is the two boxes' overlap ratio. -/
theorem overlaps_apply (b : Fin 2) (i j : Fin 6000) : overlaps x (ix3 b i j) = iou (bx b.val i.val) (bx b.val j.val) := by
  have e : overlaps x (ix3 b i j) = Idealize.ShloMosaic.Ideal.div (inters x (ix3 b i j))
      ((alongSecond (areas x) (ix3 b i j) + alongFirst (areas x) (ix3 b i j)) - inters x (ix3 b i j)
        + everyPair 0x322BCC77#32 (ix3 b i j)) := rfl
  rw [e, inters_apply x bx h, alongSecond_apply, alongFirst_apply, areas_apply x bx h, areas_apply x bx h, everyPair_apply]
  rfl

end Cert.ReferenceIdeal.Own

end
-- ==== Proof.RefPre.lean ====
/-
  What the reference's host lines before its loop leave: the ranked boxes and their overlap table, and the loop's carried
  buffers.
-/
module

public import proofs.«01_k».proof.Proof.RefBoxes

@[expose] public section

set_option maxRecDepth 16384

noncomputable section

namespace Cert.ReferenceIdeal.Own

open Cert.ReferenceIdeal Cert.ReferenceIdeal.Gen Cert.ReferenceIdeal.Value Cert.Rows Cert.Inputs Cert.Boxes
open Idealize.ShloMosaic Idealize.ShloMosaic.TcCoe Idealize.ShloMosaic.Tactic Idealize.ShloMosaic.StableHlo Idealize.ShloMosaic.Routing
open Idealize.ShloMosaic.ValueIdx (ix1 ix2 ix3 eq_ix3)

/-- The side conditions of ranking, from the program's. -/
theorem rankFacts : RankFacts where
  slice := slices_S2x261888x2_S2x261888x1_0_0_1
  cast := shapeCasts_S2x261888x1_S2x261888
  fits := sliceFits_S2x261888_S2x6000
  lane := bcast_S2x6000_S2x6000x1_0_1
  flat := shapeCasts_S4_S1x1x4
  take :=
    { bSi := bcast_S_S2x6000x1
      bLane := bcast_S2x6000_S2x6000x1_0_1
      b1 := bcast_S1_S1x1x1_2
      b111 := bcast_S1x1x1_S2x6000x1_0_1_2
      red := reducesTo_S2x6000x1_S2x6000_d2
      hu := h_S_
      bOut := bcast_S2x6000_S2x6000x4_0_1
      bNan := bcast_S_S2x6000x4
      wf := gather_S2x261888x4_S2x6000x1_S2x6000x4_2_1_0_0_1_2_114_wf }

attribute [local irreducible] Host.reduceWindow Host.reduce Host.scatter Host.gather Host.topK

variable (V : Valuation τ sig (Elt Ideal))

/-- The scales as the program prints them. -/
def scales : FVec Ideal S4 .f32 := fun i => FloatOps.ofBits .f32 (lit0 (S4.rowMajor i))

/-- The deltas, scaled before any is taken. -/
def scaled (x : FVec Ideal S2x261888x4 .f32) : FVec Ideal S2x261888x4 .f32 :=
  mulf x (broadcastInDim S2x261888x4 ![0, 1, 2] bcast_S1x1x4_S2x261888x4_0_1_2 (shapeCast S1x1x4 scales shapeCasts_S4_S1x1x4))

theorem scaled_apply (x : FVec Ideal S2x261888x4 .f32) (b : Fin 2) (j : Fin 261888) (c : Fin 4) :
    scaled x (ix3 b j c) = x (ix3 b j c) * std c :=
  congrArg (fun q : EReal => x (ix3 b j c) * q) (std_apply lit0 ⟨rfl, rfl, rfl, rfl⟩ _ _ rfl b j c)

/-- The rows taken at a lane of index words. -/
def takenAt (x : FVec Ideal S2x261888x4 .f32) (i : IVec S2x6000x1 32) : FVec Ideal S2x6000x4 .f32 :=
  takeFrom rankFacts.take 261887#32 x (wrapIdx rankFacts.take.bSi 261888#32 i)

theorem pre0_v4 : rd (after hostOps0 V) main_v4 = scaled (rd V main_arg1) := by
  unfold rd
  after_results
  rfl
theorem pre0_indices : rd (after hostOps0 V) main_indices = rankWords rankFacts (rd V main_arg0) := by
  unfold rd
  after_results
  rfl
theorem pre0_v5 : rd (after hostOps0 V) main_v5
    = broadcastInDim S2x6000x1 ![0, 1] bcast_S2x6000_S2x6000x1_0_1 (rankWords rankFacts (rd V main_arg0)) := by
  unfold rd
  after_results
  rfl
theorem pre1 : rd (after hostOps0_1 V) main_v6 = takenAt (rd V main_v4) (rd V main_v5) := by
  unfold rd
  after_results
  rfl
theorem pre2 : rd (after hostOps0_2 V) main_v7
    = broadcastInDim S2x6000x1 ![0, 1] bcast_S2x6000_S2x6000x1_0_1 (rd V main_indices) := by
  unfold rd
  after_results
theorem pre3 : rd (after hostOps0_3 V) main_v8 = takenAt (rd V main_arg2) (rd V main_v7) := by
  unfold rd
  after_results
  rfl
set_option maxHeartbeats 2000000 in
theorem pre4_v57 : rd (after hostOps0_4 V) main_v57 = decoded (rd V main_v6) (rd V main_v8) := by
  unfold rd
  after_results
  rfl
theorem pre4_lo : rd (after hostOps0_4 V) main_cst_4 = constant (F := Ideal) S_ .f32 0x00000000#32 := by
  unfold rd
  after_results
theorem pre4_hi : rd (after hostOps0_4 V) main_cst_5 = constant (F := Ideal) S_ .f32 0x3F800000#32 := by
  unfold rd
  after_results
theorem pre5 (h : rd V main_cst_4 = constant (F := Ideal) S_ .f32 0x00000000#32) (h' : rd V main_cst_5 = constant (F := Ideal) S_ .f32 0x3F800000#32) :
    rd (after hostOps0_5 V) main_v58 = clipped4 (rd V main_v57) := by
  unfold clipped4
  rw [show constant (F := Ideal) S_ .f32 0x00000000#32 = _ from h.symm, show constant (F := Ideal) S_ .f32 0x3F800000#32 = _ from h'.symm]
  unfold rd
  after_results
  rfl
set_option maxHeartbeats 2000000 in
theorem pre6_0 : rd (after hostOps0_6 V) main_v108_0 = overlaps (rd V main_v58) := by
  unfold rd
  after_results
  rfl
theorem pre6_1 : rd (after hostOps0_6 V) main_v108_1 = iotaInDim S6000 32 0 := by
  unfold rd
  after_results
  rfl
theorem pre6_3 : rd (after hostOps0_6 V) main_v108_3 = constantI S_ 32 0#32 := by
  unfold rd
  after_results
  rfl
theorem pre6_4 : rd (after hostOps0_6 V) main_v108_4 = broadcastInDim S2x6000 ![] bcast_S_S2x6000 (constantI S_ 1 1#1) := by
  unfold rd
  after_results
  rfl

/-- The boxes' table when the loop is entered. -/
def boxTable (x0 : FVec Ideal S2x261888x2 .f32) (x1 x2 : FVec Ideal S2x261888x4 .f32) : Rows4 :=
  clipped4 (decoded (ranked rankFacts x0 (scaled x1)) (ranked rankFacts x0 x2))

theorem pre_v58 : rd (after hostOps0_5 (after hostOps0_4 (after hostOps0_3 (after hostOps0_2 (after hostOps0_1 (after hostOps0 V)))))) main_v58
    = boxTable (rd V main_arg0) (rd V main_arg1) (rd V main_arg2) := by
  rw [pre5 _ (pre4_lo _) (pre4_hi _), pre4_v57]
  rw [rd_keep _ hostOps0_3_writes (b := main_v6) (by decide), rd_keep _ hostOps0_2_writes (b := main_v6) (by decide), pre1, pre0_v4, pre0_v5]
  rw [pre3, pre2, rd_keep _ hostOps0_2_writes (b := main_arg2) (by decide), rd_keep _ hostOps0_1_writes (b := main_arg2) (by decide),
    rd_keep _ hostOps0_writes (b := main_arg2) (by decide), rd_keep _ hostOps0_1_writes (b := main_indices) (by decide), pre0_indices]
  rfl

/-- The table of boxes after the lines before the loop, -/
theorem entry_v58 : rd (afterL preI V) main_v58 = boxTable (rd V main_arg0) (rd V main_arg1) (rd V main_arg2) := by
  simp only [afterL_cons, afterL_nil]
  rw [rd_keep _ hostOps0_6_writes (b := main_v58) (by decide), pre_v58]
/-- the table of overlaps, -/
theorem entry_0 : rd (afterL preI V) main_v108_0 = overlaps (boxTable (rd V main_arg0) (rd V main_arg1) (rd V main_arg2)) := by
  simp only [afterL_cons, afterL_nil]
  rw [pre6_0, pre_v58]
/-- the box numbers, -/
theorem entry_1 : rd (afterL preI V) main_v108_1 = iotaInDim S6000 32 0 := by
  simp only [afterL_cons, afterL_nil]
  rw [pre6_1]
/-- the first box number to step over, -/
theorem entry_3 : rd (afterL preI V) main_v108_3 = constantI S_ 32 0#32 := by
  simp only [afterL_cons, afterL_nil]
  rw [pre6_3]
/-- and every flag set. -/
theorem entry_4 : rd (afterL preI V) main_v108_4 = broadcastInDim S2x6000 ![] bcast_S_S2x6000 (constantI S_ 1 1#1) := by
  simp only [afterL_cons, afterL_nil]
  rw [pre6_4]

/-! ## The boxes -/

variable (x0 : FVec Ideal S2x261888x2 .f32) (x1 x2 : FVec Ideal S2x261888x4 .f32)

/-- On finite deltas and anchors the table holds the ranked boxes, -/
theorem boxTable_apply (h1 : ∀ i, Fine (x1 i)) (h2 : ∀ i, Fine (x2 i)) (b : Fin 2) (j : Fin 6000) (c : Fin 4) :
    boxTable x0 x1 x2 (ix3 b j c) = boxes rankFacts x0 x1 x2 b.val j.val c := by
  unfold boxTable
  refine (decoded_apply _ _ b j c).trans ?_
  rw [← boxFrom_boxes rankFacts x0 x1 x2 h1 h2 b j]
  refine congrFun (congrArg₂ boxFrom (funext fun q => ?_) (funext fun q => ?_)) c
  · exact (ranked_apply _ _ _ b j q).trans (scaled_apply x1 b _ q)
  · exact ranked_apply _ _ _ b j q

/-- and the overlap table their overlap ratios. -/
theorem overlapTable_apply (h1 : ∀ i, Fine (x1 i)) (h2 : ∀ i, Fine (x2 i)) (b : Fin 2) (i j : Fin 6000) :
    overlaps (boxTable x0 x1 x2) (ix3 b i j)
      = iou (boxes rankFacts x0 x1 x2 b.val i.val) (boxes rankFacts x0 x1 x2 b.val j.val) :=
  overlaps_apply _ (boxes rankFacts x0 x1 x2) (fun b j c => boxTable_apply x0 x1 x2 h1 h2 b j c) b i j

end Cert.ReferenceIdeal.Own

end
-- ==== Proof.RefLoop.lean ====
/-
  The reference's suppression loop: before trip `k` the carried flags are the flags after `k` boxes; and so what the run
  leaves in its result.
-/
module

public import proofs.«01_k».proof.Proof.RefPre
public import proofs.«01_k».proof.Proof.RefTail
public import proofs.«01_k».proof.Proof.RefFrame
public import Idealize.ShloMosaic.Lib.DynamicIndex

@[expose] public section

set_option maxRecDepth 16384

noncomputable section

namespace Cert.ReferenceIdeal.Own

open Cert.ReferenceIdeal Cert.ReferenceIdeal.Gen Cert.ReferenceIdeal.Value Cert.Rows Cert.Inputs Cert.Boxes
open Idealize.ShloMosaic Idealize.ShloMosaic.TcCoe Idealize.ShloMosaic.Tactic Idealize.ShloMosaic.StableHlo Idealize.ShloMosaic.Routing
open Idealize.ShloMosaic.ValueIdx (ix1 ix2 ix3 eq_ix2 eq_ix3)
open Idealize.ShloMosaic.WordCmp (toInt_ofNat_of_lt cmpi_sgt_ofNat dynamicSlice_eq_extract)

/-! ## One trip's flags -/

/-- A start position, counted from the end when negative. -/
def wrapped (n d : IVec S_ 32) : IVec S_ 32 := select (cmpi .slt n (constantI S_ 32 0#32)) (addi n d) n

/-- The row of overlap ratios of box `n`. -/
def ratios (ov : Pairs) (n : IVec S_ 32) : FVec Ideal S2x6000 .f32 :=
  shapeCast S2x6000 (Host.dynamicSlice S2x1x6000 ov (fun k => (((![wrapped (constantI S_ 32 0#32) (constantI S_ 32 2#32),
    wrapped n (constantI S_ 32 6000#32), wrapped (constantI S_ 32 0#32) (constantI S_ 32 6000#32)] : Fin 3 → IVec S_ 32) k (Shape.Idx.first h_S_)).toInt))
    sliceFits_S2x6000x6000_S2x1x6000) shapeCasts_S2x1x6000_S2x6000

/-- Box `n`'s own flags. -/
def ownFlag (fl : IVec S2x6000 1) (n : IVec S_ 32) : IVec S2 1 :=
  shapeCast S2 (Host.dynamicSlice S2x1 fl (fun k => (((![wrapped (constantI S_ 32 0#32) (constantI S_ 32 2#32),
    wrapped n (constantI S_ 32 6000#32)] : Fin 2 → IVec S_ 32) k (Shape.Idx.first h_S_)).toInt))
    sliceFits_S2x6000_S2x1) shapeCasts_S2x1_S2

/-- The flags after a trip: box `n`, if still kept, drops every later box it overlaps too much. -/
def tripFlags (ov : Pairs) (ids : IVec S6000 32) (n : IVec S_ 32) (fl : IVec S2x6000 1) : IVec S2x6000 1 :=
  andi fl (noti (andi (andi (cmpf .ogt (ratios ov n) (broadcastInDim S2x6000 ![] bcast_S_S2x6000 (constant (F := Ideal) S_ .f32 0x3F333333#32)))
    (broadcastInDim S2x6000 ![0, 1] bcast_S2x1_S2x6000_0_1 (broadcastInDim S2x1 ![0] bcast_S2_S2x1_0 (ownFlag fl n))))
    (broadcastInDim S2x6000 ![0, 1] bcast_S1x6000_S2x6000_0_1 (broadcastInDim S1x6000 ![1] bcast_S6000_S1x6000_1
      (cmpi .sgt ids (broadcastInDim S6000 ![] bcast_S_S6000 n))))))

theorem step_flags (V : Valuation τ sig (Elt Ideal)) :
    step_main_v108_4 V = tripFlags (rd V main_v108_0) (rd V main_v108_1) (rd V main_v108_3) (rd V main_v108_4) := by
  unfold step_main_v108_4 res_main_while0b_v155 res_main_while0b_v169
  rfl

/-- A scalar holding the number `k`. -/
def num (k : Nat) : IVec S_ 32 := fun _ => BitVec.ofNat 32 k

theorem wrapped_num (k : Nat) (hk : k < 2 ^ 31) (d : IVec S_ 32) (i : S_.Idx) : ((wrapped (num k) d) i).toInt = (k : Int) := by
  have h : ((num k) i).toInt = (k : Int) := toInt_ofNat_of_lt (w := 32) hk
  unfold wrapped
  rw [select_slt_zero_of_nonneg (num k) _ _ i (by rw [h]; omega), h]

theorem ratios_apply (ov : Pairs) (k : Fin 6000) (b : Fin 2) (j : Fin 6000) :
    ratios ov (num k.val) (ix2 b j) = ov (ix3 b k j) := by
  unfold ratios
  have hs : S2x6000x6000.Slices (![0, k.val, 0] : Fin 3 → Nat) S2x1x6000 := ⟨rfl, fun a => by
    have := k.isLt
    match a with
    | ⟨0, _⟩ => show 0 + 2 ≤ 2; omega
    | ⟨1, _⟩ => show k.val + 1 ≤ 6000; omega
    | ⟨2, _⟩ => show 0 + 6000 ≤ 6000; omega⟩
  rw [dynamicSlice_eq_extract S2x1x6000 ov _ _ (![0, k.val, 0] : Fin 3 → Nat) hs (fun a => by
    match a with
    | ⟨0, _⟩ => exact wrapped_num 0 (by omega) (constantI S_ 32 2#32) (Shape.Idx.first h_S_)
    | ⟨1, _⟩ => exact wrapped_num k.val (by have := k.isLt; omega) (constantI S_ 32 6000#32) (Shape.Idx.first h_S_)
    | ⟨2, _⟩ => exact wrapped_num 0 (by omega) (constantI S_ 32 6000#32) (Shape.Idx.first h_S_))]
  refine (shapeCast_apply _ _ _ (ix3 b (0 : Fin 1) j) ?_).trans ?_
  · rw [Shape.rowMajor_val_three, Shape.rowMajor_val_two]
    show (b.val * 1 + 0) * 6000 + j.val = b.val * 6000 + j.val
    omega
  · refine extractStridedSlice_apply _ _ _ _ (ix3 b k j) (fun a => ?_)
    match a with
    | ⟨0, _⟩ => show b.val = 0 + b.val; omega
    | ⟨1, _⟩ => show k.val = k.val + 0; omega
    | ⟨2, _⟩ => show j.val = 0 + j.val; omega

theorem ownFlag_apply (fl : IVec S2x6000 1) (k : Fin 6000) (b : Fin 2) : ownFlag fl (num k.val) (ix1 b) = fl (ix2 b k) := by
  unfold ownFlag
  have hs : S2x6000.Slices (![0, k.val] : Fin 2 → Nat) S2x1 := ⟨rfl, fun a => by
    have := k.isLt
    match a with
    | ⟨0, _⟩ => show 0 + 2 ≤ 2; omega
    | ⟨1, _⟩ => show k.val + 1 ≤ 6000; omega⟩
  rw [dynamicSlice_eq_extract S2x1 fl _ _ (![0, k.val] : Fin 2 → Nat) hs (fun a => by
    match a with
    | ⟨0, _⟩ => exact wrapped_num 0 (by omega) (constantI S_ 32 2#32) (Shape.Idx.first h_S_)
    | ⟨1, _⟩ => exact wrapped_num k.val (by have := k.isLt; omega) (constantI S_ 32 6000#32) (Shape.Idx.first h_S_))]
  refine (shapeCast_apply _ _ _ (ix2 b (0 : Fin 1)) ?_).trans ?_
  · rw [Shape.rowMajor_val_two, Shape.rowMajor_val_one]
    show b.val * 1 + 0 = b.val
    omega
  · refine extractStridedSlice_apply _ _ _ _ (ix2 b k) (fun a => ?_)
    match a with
    | ⟨0, _⟩ => show b.val = 0 + b.val; omega
    | ⟨1, _⟩ => show k.val = k.val + 0; omega

/-- The flags' entry of a trip, over any row of ratios and any flags. -/
theorem flagEntry (fl o l : IVec S2x6000 1) (x : FVec Ideal S2x6000 .f32) (i : S2x6000.Idx) :
    andi fl (noti (andi (andi (cmpf .ogt x (broadcastInDim S2x6000 ![] bcast_S_S2x6000 (constant (F := Ideal) S_ .f32 0x3F333333#32))) o) l)) i
      = IntOp.andi (fl i) (~~~ (IntOp.andi (IntOp.andi (BitVec.ofBool (decide (lit 0x3F333333#32 < x i))) (o i)) (l i))) := rfl

/-- One trip takes the flags after `k` boxes to those after `k + 1`. -/
theorem tripFlags_apply (ov : Pairs) (fl : IVec S2x6000 1) (k : Fin 6000) (b : Fin 2) (bx : Nat → Fin 4 → EReal)
    (hov : ∀ i j : Fin 6000, ov (ix3 b i j) = iou (bx i.val) (bx j.val))
    (hfl : ∀ j : Fin 6000, fl (ix2 b j) = BitVec.ofBool (keep bx k.val j.val)) (j : Fin 6000) :
    tripFlags ov (iotaInDim S6000 32 0) (num k.val) fl (ix2 b j) = BitVec.ofBool (keep bx (k.val + 1) j.val) := by
  have hown : broadcastInDim S2x6000 ![0, 1] bcast_S2x1_S2x6000_0_1 (broadcastInDim S2x1 ![0] bcast_S2_S2x1_0 (ownFlag fl (num k.val))) (ix2 b j)
      = fl (ix2 b k) := by
    refine (broadcastInDim_apply _ _ _ _ (ix2 b (0 : Fin 1)) (fun a => ?_)).trans ((broadcastInDim_apply _ _ _ _ (ix1 b) (fun a => ?_)).trans (ownFlag_apply fl k b))
    · match a with
      | ⟨0, _⟩ => exact (if_neg (show ¬ (2 : Nat) = 1 by decide)).symm
      | ⟨1, _⟩ => rfl
    · match a with
      | ⟨0, _⟩ => exact (if_neg (show ¬ (2 : Nat) = 1 by decide)).symm
  have hlater : broadcastInDim S2x6000 ![0, 1] bcast_S1x6000_S2x6000_0_1 (broadcastInDim S1x6000 ![1] bcast_S6000_S1x6000_1
      (cmpi .sgt (iotaInDim S6000 32 0) (broadcastInDim S6000 ![] bcast_S_S6000 (num k.val)))) (ix2 b j)
      = BitVec.ofBool (decide (k.val < j.val)) := by
    refine (broadcastInDim_apply _ _ _ _ (ix2 (0 : Fin 1) j) (fun a => ?_)).trans ((broadcastInDim_apply _ _ _ _ (ix1 j) (fun a => ?_)).trans ?_)
    · match a with
      | ⟨0, _⟩ => rfl
      | ⟨1, _⟩ => exact (if_neg (show ¬ (6000 : Nat) = 1 by decide)).symm
    · match a with
      | ⟨0, _⟩ => exact (if_neg (show ¬ (6000 : Nat) = 1 by decide)).symm
    · show IntOp.cmpi .sgt (BitVec.ofNat 32 j.val) (BitVec.ofNat 32 k.val) = _
      exact cmpi_sgt_ofNat (w := 32) (by have := j.isLt; omega) (by have := k.isLt; omega)
  unfold tripFlags
  rw [flagEntry, hown, hlater, ratios_apply, hov, hfl, hfl, keep]
  generalize decide (lit 0x3F333333#32 < iou (bx k.val) (bx j.val)) = p
  generalize keep bx k.val k.val = q
  generalize decide (k.val < j.val) = r
  generalize keep bx k.val j.val = s
  cases p <;> cases q <;> cases r <;> cases s <;> rfl

/-! ## The loop -/

variable (m : (ℓ : Loc nD τ sig) → Buf (Elt Ideal) ℓ) (ρ : Dev nD → PrngReg) (c : Dev nD)

/-- The score argument, the delta argument and the anchor argument. -/
abbrev arg0 : FVec Ideal S2x261888x2 .f32 := m ((c.tc : Thread nD τ).loc main_arg0)
abbrev arg1 : FVec Ideal S2x261888x4 .f32 := m ((c.tc : Thread nD τ).loc main_arg1)
abbrev arg2 : FVec Ideal S2x261888x4 .f32 := m ((c.tc : Thread nD τ).loc main_arg2)

/-- One trip, read at a carried buffer. -/
theorem atK_succ (k : Nat) (r : Ref sig .tc) (h : r ∈ carriedRefs) :
    rd (atK m (k + 1) c) r = rd (STEP (atK m k c)) r := trip_agree (atK m k c) r h

theorem num_succ (k : Nat) : addi (num k) (constantI S_ 32 1#32) = num (k + 1) := by
  funext i
  show BitVec.ofNat 32 k + BitVec.ofNat 32 1 = BitVec.ofNat 32 (k + 1)
  exact (BitVec.ofNat_add k 1).symm

/-- The overlap table never changes, -/
theorem loop_0 (k : Nat) : rd (atK m k c) main_v108_0 = overlaps (boxTable (arg0 m c) (arg1 m c) (arg2 m c)) := by
  induction k with
  | zero => exact entry_0 (launchContents m c)
  | succ k ih => exact (atK_succ m c k main_v108_0 (by decide)).trans ih
/-- nor do the box numbers; -/
theorem loop_1 (k : Nat) : rd (atK m k c) main_v108_1 = iotaInDim S6000 32 0 := by
  induction k with
  | zero => exact entry_1 (launchContents m c)
  | succ k ih => exact (atK_succ m c k main_v108_1 (by decide)).trans ih
/-- before trip `k` the box to step over is box `k`, -/
theorem loop_3 (k : Nat) : rd (atK m k c) main_v108_3 = num k := by
  induction k with
  | zero => exact entry_3 (launchContents m c)
  | succ k ih =>
    refine (atK_succ m c k main_v108_3 (by decide)).trans ?_
    rw [← num_succ, ← ih]
    rfl
/-- and the flags are those after `k` boxes. -/
theorem loop_4 (h1 : ∀ i, Fine (arg1 m c i)) (h2 : ∀ i, Fine (arg2 m c i)) (b : Fin 2) (k : Nat) (hk : k ≤ 6000) (j : Fin 6000) :
    rd (atK m k c) main_v108_4 (ix2 b j)
      = BitVec.ofBool (keep (boxes rankFacts (arg0 m c) (arg1 m c) (arg2 m c) b.val) k j.val) := by
  induction k generalizing j with
  | zero =>
    refine (congrFun (entry_4 (launchContents m c)) (ix2 b j)).trans ?_
    refine Eq.trans (b := 1#1) rfl ?_
    rw [keep, decide_eq_true j.isLt]
    rfl
  | succ k ih =>
    refine (congrFun (atK_succ m c k main_v108_4 (by decide)) (ix2 b j)).trans ?_
    refine (congrFun (step_flags (atK m k c)) (ix2 b j)).trans ?_
    rw [loop_0, loop_1, loop_3]
    exact tripFlags_apply _ _ ⟨k, by omega⟩ b (boxes rankFacts (arg0 m c) (arg1 m c) (arg2 m c) b.val)
      (fun i j => overlapTable_apply _ _ _ h1 h2 b i j) (fun j => ih (by omega) j) j

/-- The table of boxes never changes. -/
theorem loop_v58 (k : Nat) : rd (atK m k c) main_v58 = boxTable (arg0 m c) (arg1 m c) (arg2 m c) :=
  (atK_of_not_written m c main_v58 (by decide +kernel) (by decide +kernel) k).trans (entry_v58 (launchContents m c))

/-! ## The result -/

/-- THE REFERENCE'S RESULT: entry by entry the result of the ranked boxes. -/
theorem final_result (h1 : ∀ i, Fine (arg1 m c i)) (h2 : ∀ i, Fine (arg2 m c i)) (b : Fin 2) (r : Fin 2000) (q : Fin 4) :
    (finalContents condOps preI bodyI postI 6000 m c (Proc.devRef .tc main_v153) : FVec Ideal S2x2000x4 .f32) (ix3 b r q)
      = result rankFacts (arg0 m c) (arg1 m c) (arg2 m c) b r q := by
  refine (congrFun (tail_value (after condOps (atK m 6000 c))) (ix3 b r q)).trans ?_
  rw [rd_keep _ condOps_writes (b := main_v108_4) (by decide), rd_keep _ condOps_writes (b := main_v58) (by decide), loop_v58]
  exact compact_apply compactFacts (survives rankFacts (arg0 m c) (arg1 m c) (arg2 m c)) _ (by decide) (by decide)
    (by decide) _ (boxes rankFacts (arg0 m c) (arg1 m c) (arg2 m c))
    (fun b j q _ => boxTable_apply _ _ _ h1 h2 b j q)
    (fun b i h => keep_of_le _ _ _ h)
    (fun b j => by
      rw [loop_4 m c h1 h2 b 6000 le_rfl j]
      show _ ↔ keep (boxes rankFacts (arg0 m c) (arg1 m c) (arg2 m c) b.val) 6000 j.val = true
      cases keep (boxes rankFacts (arg0 m c) (arg1 m c) (arg2 m c) b.val) 6000 j.val <;> decide) b r q

/-- The run, read: the result holds the result of the ranked boxes and the arguments are unchanged. -/
theorem run_value (h1 : ∀ c i, Fine (arg1 m c i)) (h2 : ∀ c i, Fine (arg2 m c i)) :
    θ_run defs (onTc (τ := τ) (main (F := Ideal))) ⟨m, fun _ => 0, ρ⟩ fun r => ∀ c : Dev nD,
      r.2.mem ((c.tc : Thread nD τ).loc main_v153)
        = (fun i => result rankFacts (arg0 m c) (arg1 m c) (arg2 m c) (i 0) (i 1) (i 2) : FVec Ideal S2x2000x4 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    refine ⟨?_, (h c main_arg0 (by decide)).trans (final_arg0 m c), (h c main_arg1 (by decide)).trans (final_arg1 m c),
      (h c main_arg2 (by decide)).trans (final_arg2 m c)⟩
    refine (h c main_v153 (by decide)).trans ?_
    refine funext fun (i : S2x2000x4.Idx) => ?_
    have e : i = ix3 (i 0 : Fin 2) (i 1 : Fin 2000) (i 2 : Fin 4) := eq_ix3 i
    exact (congrArg (finalContents condOps preI bodyI postI 6000 m c (Proc.devRef .tc main_v153) : FVec Ideal S2x2000x4 .f32) e).trans
      (final_result m c (h1 c) (h2 c) (i 0) (i 1) (i 2)))
    (run_fold m ρ)

end Cert.ReferenceIdeal.Own

end
-- ==== Proof.Finite.lean ====
/-
  The precondition, read entry by entry: every delta and every anchor coordinate is a real number.
-/
module

public import proofs.«01_k».proof.Defs
public import proofs.«01_k».proof.Proof.Boxes

@[expose] public section

noncomputable section

namespace Cert.Finite

open Idealize.ShloMosaic Cert.Boxes Cert.Pre_finite_boxes

/-- The precondition's only side condition: a scalar broadcasts to any shape. -/
theorem facts : Cert.Pre_finite_boxes.Facts where
  bcast_S_S2x261888x4 := by decide

/-- An extended real whose absolute value is below infinity is a real number. -/
theorem fine_of_max_lt (x : EReal) (h : max x (-x) < ⊤) : Fine x := by
  have h' := max_lt_iff.mp h
  refine ⟨x.toReal, (EReal.coe_toReal (ne_of_lt h'.1) fun e => ?_).symm⟩
  rw [e] at h'
  exact absurd h'.2 (by simp)

/-- An entry whose absolute value compares below infinity is a real number. -/
theorem entry_fine [Facts] (x : FVec Ideal S2x261888x4 .f32)
    (h : cmpf .olt (Host.absf x) (broadcastInDim S2x261888x4 ![] Facts.bcast_S_S2x261888x4 (constant (F := Ideal) S_ .f32 0x7F800000#32)) = fun _ => 1#1)
    (i : S2x261888x4.Idx) : Fine (x i) := by
  have e : BitVec.ofBool (decide (max (x i : EReal) (-(x i : EReal)) < Idealize.ShloMosaic.Ideal.ofBits .f32 0x7F800000#32)) = 1#1 := congrFun h i
  have htop : Idealize.ShloMosaic.Ideal.ofBits .f32 0x7F800000#32 = ⊤ := by simp [Idealize.ShloMosaic.Ideal.ofBits, Idealize.ShloMosaic.Ideal.ieee]
  rw [htop] at e
  refine fine_of_max_lt _ ?_
  by_contra hn
  rw [decide_eq_false hn] at e
  exact absurd e (by decide)

/-- Under the precondition every delta is a real number, -/
theorem delta_fine [Facts] (x0 : FVec Ideal S2x261888x2 .f32) (x1 x2 : FVec Ideal S2x261888x4 .f32)
    (h : (fn (F := Ideal) x0 x1 x2).1 = fun _ => 1#1) (i : S2x261888x4.Idx) : Fine (x1 i) := entry_fine x1 h i
/-- and every anchor coordinate too. -/
theorem anchor_fine [Facts] (x0 : FVec Ideal S2x261888x2 .f32) (x1 x2 : FVec Ideal S2x261888x4 .f32)
    (h : (fn (F := Ideal) x0 x1 x2).2 = fun _ => 1#1) (i : S2x261888x4.Idx) : Fine (x2 i) := entry_fine x2 h i

end Cert.Finite

end
-- ==== Proof.lean ====
/-
  The proof of `Cert.Claim`: the frames of the three programs, that the idealization rewrote nothing, and that on finite
  deltas and anchors the idealized kernel and the reference leave the same result.
-/
module

public import proofs.«01_k».proof.Defs
public import proofs.«01_k».proof.Proof.KernelRun
public import proofs.«01_k».proof.Proof.KernelValue
public import proofs.«01_k».proof.Proof.RefLoop
public import proofs.«01_k».proof.Proof.Finite

@[expose] public section

noncomputable section

namespace Cert.Proof

open Idealize.ShloMosaic Idealize.ShloMosaic.TcCoe Cert.Inputs

/-- From memories agreeing on the arguments, with finite deltas and anchors, the idealized kernel and the reference both
    end with the result of the ranked boxes. -/
theorem algebraic : Cert.algebraic_KernelIdeal_ReferenceIdeal_pre_finite_boxes (hKernelIdeal := Cert.KernelIdeal.Gen.facts)
    (hReferenceIdeal := Cert.ReferenceIdeal.Gen.facts) (hPre_finite_boxes := Cert.Finite.facts) := by
  have hf : Cert.Pre_finite_boxes.Facts := Cert.Finite.facts
  intro m g m' g' hpre hargs
  refine ⟨fun c => (fun i => result Cert.KernelIdeal.Own.rankFacts (Cert.KernelIdeal.Own.arg0 m c) (Cert.KernelIdeal.Own.arg1 m c)
      (Cert.KernelIdeal.Own.arg2 m c) (i 0) (i 1) (i 2) : FVec Ideal Cert.KernelIdeal.S2x2000x4 .f32),
    Cert.KernelIdeal.Own.run_value m g, ?_⟩
  have e0 : ∀ c, Cert.ReferenceIdeal.Own.arg0 m' c = Cert.KernelIdeal.Own.arg0 m c := fun c => (hargs c).1
  have e1 : ∀ c, Cert.ReferenceIdeal.Own.arg1 m' c = Cert.KernelIdeal.Own.arg1 m c := fun c => (hargs c).2.1
  have e2 : ∀ c, Cert.ReferenceIdeal.Own.arg2 m' c = Cert.KernelIdeal.Own.arg2 m c := fun c => (hargs c).2.2
  have h1 : ∀ c i, Cert.Boxes.Fine (Cert.ReferenceIdeal.Own.arg1 m' c i) := fun c i => by
    rw [e1 c]
    exact Cert.Finite.delta_fine _ _ _ (hpre c).1 i
  have h2 : ∀ c i, Cert.Boxes.Fine (Cert.ReferenceIdeal.Own.arg2 m' c i) := fun c i => by
    rw [e2 c]
    exact Cert.Finite.anchor_fine _ _ _ (hpre c).2 i
  refine (θ_run Cert.ReferenceIdeal.defs _ _).mono (fun r h c => ⟨(h c).1.trans ?_, (h c).2⟩)
    (Cert.ReferenceIdeal.Own.run_value m' g' h1 h2)
  rw [e0 c, e1 c, e2 c]

/-- Every claim of this certificate. -/
theorem claim : Cert.Claim :=
  ⟨Cert.Kernel.Gen.facts, Cert.KernelIdeal.Gen.facts, Cert.ReferenceIdeal.Gen.facts, Cert.Finite.facts,
    fun m g _ => Cert.Kernel.Own.frame_quiescent (F := Bits) m g,
    fun m g _ => Cert.KernelIdeal.Own.frame_quiescent (F := Ideal) m g,
    fun m g _ => Cert.KernelIdeal.Own.frame_quiescent (F := Ideal) m g,
    fun m g _ => Cert.ReferenceIdeal.Own.frame_quiescent (F := Ideal) m g,
    fun m g _ => Cert.ReferenceIdeal.Own.frame_quiescent (F := Ideal) m g,
    trivial,
    algebraic⟩

end Cert.Proof

end
